-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x8192x3 : Shape := ⟨3, ![16, 8192, 3]⟩
abbrev S16x8192x1 : Shape := ⟨3, ![16, 8192, 1]⟩
abbrev S16x8192 : Shape := ⟨2, ![16, 8192]⟩
abbrev S1024x48 : Shape := ⟨2, ![1024, 48]⟩
abbrev S1024x16 : Shape := ⟨2, ![1024, 16]⟩
abbrev S16x1024 : Shape := ⟨2, ![16, 1024]⟩
abbrev S16x1024x1 : Shape := ⟨3, ![16, 1024, 1]⟩
abbrev S16x1024x3 : Shape := ⟨3, ![16, 1024, 3]⟩
abbrev S16x512 : Shape := ⟨2, ![16, 512]⟩
abbrev S16x16 : Shape := ⟨2, ![16, 16]⟩
abbrev S16x1 : Shape := ⟨2, ![16, 1]⟩
abbrev S1x16 : Shape := ⟨2, ![1, 16]⟩
abbrev S1x48 : Shape := ⟨2, ![1, 48]⟩
abbrev S16 : Shape := ⟨1, ![16]⟩

abbrev nBuf : Space → Nat
  | .hbm => 18
  | .vmem => 5
  | .smem => 0
  | _ => 0

abbrev bufTy : (tb : Table) → Fin (tcTables nBuf tb) → BufTy
  | .hbm, ⟨0, _⟩ => ⟨S16x8192x3, .f32⟩
  | .hbm, ⟨1, _⟩ => ⟨S16x8192x1, .f32⟩
  | .hbm, ⟨2, _⟩ => ⟨S16x8192, .f32⟩
  | .hbm, ⟨3, _⟩ => ⟨S16x8192x1, .f32⟩
  | .hbm, ⟨4, _⟩ => ⟨S16x8192, .f32⟩
  | .hbm, ⟨5, _⟩ => ⟨S16x8192x1, .f32⟩
  | .hbm, ⟨6, _⟩ => ⟨S16x8192, .f32⟩
  | .hbm, ⟨7, _⟩ => ⟨S1024x48, .f32⟩
  | .hbm, ⟨8, _⟩ => ⟨S1024x16, .f32⟩
  | .hbm, ⟨9, _⟩ => ⟨S16x1024, .f32⟩
  | .hbm, ⟨10, _⟩ => ⟨S1024x16, .f32⟩
  | .hbm, ⟨11, _⟩ => ⟨S16x1024, .f32⟩
  | .hbm, ⟨12, _⟩ => ⟨S1024x16, .f32⟩
  | .hbm, ⟨13, _⟩ => ⟨S16x1024, .f32⟩
  | .hbm, ⟨14, _⟩ => ⟨S16x1024x1, .f32⟩
  | .hbm, ⟨15, _⟩ => ⟨S16x1024x1, .f32⟩
  | .hbm, ⟨16, _⟩ => ⟨S16x1024x1, .f32⟩
  | .hbm, ⟨17, _⟩ => ⟨S16x1024x3, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S1024x48, .f32⟩
  | .local _ .vmem, ⟨4, _⟩ => ⟨S16x8192, .f32⟩
  | _, _ => ⟨S16x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_v2 : Ref sig .tc := ⟨.hbm, 3, rfl⟩
abbrev main_call0_v3 : Ref sig .tc := ⟨.hbm, 4, rfl⟩
abbrev main_call0_v4 : Ref sig .tc := ⟨.hbm, 5, rfl⟩
abbrev main_call0_v5 : Ref sig .tc := ⟨.hbm, 6, rfl⟩
abbrev main_call0_v6 : Ref sig .tc := ⟨.hbm, 7, rfl⟩
abbrev main_call0_v7 : Ref sig .tc := ⟨.hbm, 8, rfl⟩
abbrev main_call0_v8 : Ref sig .tc := ⟨.hbm, 9, rfl⟩
abbrev main_call0_v9 : Ref sig .tc := ⟨.hbm, 10, rfl⟩
abbrev main_call0_v10 : Ref sig .tc := ⟨.hbm, 11, rfl⟩
abbrev main_call0_v11 : Ref sig .tc := ⟨.hbm, 12, rfl⟩
abbrev main_call0_v12 : Ref sig .tc := ⟨.hbm, 13, rfl⟩
abbrev main_call0_v13 : Ref sig .tc := ⟨.hbm, 14, rfl⟩
abbrev main_call0_v14 : Ref sig .tc := ⟨.hbm, 15, rfl⟩
abbrev main_call0_v15 : Ref sig .tc := ⟨.hbm, 16, rfl⟩
abbrev main_v0 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c1024_i32 : BitVec 32 := 1024#32
  let v17 : BitVec 32 := Scalar.addi c0_i32 c1024_i32
  let c1_i32 : BitVec 32 := 1#32
  ⟨c0_i32, v17, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v19 : Index := Scalar.indexCast arg5
  let c0_10 : Index := 0#32
  ![v19.toNat, 0]
abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x8192x3 : Shape := ⟨3, ![16, 8192, 3]⟩
abbrev S_ : Shape := ⟨0, ![]⟩
abbrev S16x8192 : Shape := ⟨2, ![16, 8192]⟩
abbrev S16 : Shape := ⟨1, ![16]⟩
abbrev S1024x16 : Shape := ⟨2, ![1024, 16]⟩
abbrev S16x1x1 : Shape := ⟨3, ![16, 1, 1]⟩
abbrev S1 : Shape := ⟨1, ![1]⟩
abbrev S1x1x1 : Shape := ⟨3, ![1, 1, 1]⟩
abbrev S16x1 : Shape := ⟨2, ![16, 1]⟩
abbrev S16x1x3 : Shape := ⟨3, ![16, 1, 3]⟩
abbrev S1x16 : Shape := ⟨2, ![1, 16]⟩
abbrev S16x1024 : Shape := ⟨2, ![16, 1024]⟩
abbrev S16x1024x1 : Shape := ⟨3, ![16, 1024, 1]⟩
abbrev S16x1024x3 : Shape := ⟨3, ![16, 1024, 3]⟩

abbrev nBuf : Space → Nat
  | .hbm => 78
  | .vmem => 0
  | .smem => 0
  | _ => 0

abbrev bufTy : (tb : Table) → Fin (tcTables nBuf tb) → BufTy
  | .hbm, ⟨0, _⟩ => ⟨S16x8192x3, .f32⟩
  | .hbm, ⟨1, _⟩ => ⟨S_, .f32⟩
  | .hbm, ⟨2, _⟩ => ⟨S16x8192, .f32⟩
  | .hbm, ⟨3, _⟩ => ⟨S_, .i32⟩
  | .hbm, ⟨4, _⟩ => ⟨S16, .i32⟩
  | .hbm, ⟨5, _⟩ => ⟨S_, .i32⟩
  | .hbm, ⟨6, _⟩ => ⟨S1024x16, .i32⟩
  | .hbm, ⟨7, _⟩ => ⟨S_, .i32⟩
  | .hbm, ⟨8, _⟩ => ⟨S16x8192x3, .f32⟩
  | .hbm, ⟨9, _⟩ => ⟨S_, .i32⟩
  | .hbm, ⟨10, _⟩ => ⟨S16x8192, .f32⟩
  | .hbm, ⟨11, _⟩ => ⟨S16, .i32⟩
  | .hbm, ⟨12, _⟩ => ⟨S1024x16, .i32⟩
  | .hbm, ⟨13, _⟩ => ⟨S_, .i32⟩
  | .hbm, ⟨14, _⟩ => ⟨S_, .i1⟩
  | .hbm, ⟨15, _⟩ => ⟨S16x1x1, .i32⟩
  | .hbm, ⟨16, _⟩ => ⟨S_, .i32⟩
  | .hbm, ⟨17, _⟩ => ⟨S16x1x1, .i32⟩
  | .hbm, ⟨18, _⟩ => ⟨S16x1x1, .i1⟩
  | .hbm, ⟨19, _⟩ => ⟨S_, .i32⟩
  | .hbm, ⟨20, _⟩ => ⟨S16x1x1, .i32⟩
  | .hbm, ⟨21, _⟩ => ⟨S16x1x1, .i32⟩
  | .hbm, ⟨22, _⟩ => ⟨S16x1x1, .i32⟩
  | .hbm, ⟨23, _⟩ => ⟨S1, .i32⟩
  | .hbm, ⟨24, _⟩ => ⟨S_, .i32⟩
  | .hbm, ⟨25, _⟩ => ⟨S16x1x1, .i32⟩
  | .hbm, ⟨26, _⟩ => ⟨S16x1x1, .i1⟩
  | .hbm, ⟨27, _⟩ => ⟨S1x1x1, .i32⟩
  | .hbm, ⟨28, _⟩ => ⟨S16x1x1, .i32⟩
  | .hbm, ⟨29, _⟩ => ⟨S16x1x1, .i1⟩
  | .hbm, ⟨30, _⟩ => ⟨S16x1x1, .i1⟩
  | .hbm, ⟨31, _⟩ => ⟨S_, .i1⟩
  | .hbm, ⟨32, _⟩ => ⟨S16x1, .i1⟩
  | .hbm, ⟨33, _⟩ => ⟨S16x1x3, .f32⟩
  | .hbm, ⟨34, _⟩ => ⟨S16x1x3, .i1⟩
  | .hbm, ⟨35, _⟩ => ⟨S_, .f32⟩
  | .hbm, ⟨36, _⟩ => ⟨S16x1x3, .f32⟩
  | .hbm, ⟨37, _⟩ => ⟨S16x1x3, .f32⟩
  | .hbm, ⟨38, _⟩ => ⟨S16x8192x3, .f32⟩
  | .hbm, ⟨39, _⟩ => ⟨S16x8192x3, .f32⟩
  | .hbm, ⟨40, _⟩ => ⟨S16x8192x3, .f32⟩
  | .hbm, ⟨41, _⟩ => ⟨S_, .f32⟩
  | .hbm, ⟨42, _⟩ => ⟨S16x8192, .f32⟩
  | .hbm, ⟨43, _⟩ => ⟨S16x8192, .f32⟩
  | .hbm, ⟨44, _⟩ => ⟨S16x8192, .i32⟩
  | .hbm, ⟨45, _⟩ => ⟨S_, .f32⟩
  | .hbm, ⟨46, _⟩ => ⟨S_, .i32⟩
  | .hbm, ⟨47, _⟩ => ⟨S16, .f32⟩
  | .hbm, ⟨48, _⟩ => ⟨S16, .i32⟩
  | .hbm, ⟨49, _⟩ => ⟨S1x16, .i32⟩
  | .hbm, ⟨50, _⟩ => ⟨S_, .i32⟩
  | .hbm, ⟨51, _⟩ => ⟨S1024x16, .i32⟩
  | .hbm, ⟨52, _⟩ => ⟨S_, .i32⟩
  | .hbm, ⟨53, _⟩ => ⟨S_, .i32⟩
  | .hbm, ⟨54, _⟩ => ⟨S16x1024, .i32⟩
  | .hbm, ⟨55, _⟩ => ⟨S16x1024x1, .i32⟩
  | .hbm, ⟨56, _⟩ => ⟨S_, .i32⟩
  | .hbm, ⟨57, _⟩ => ⟨S16x1024x1, .i32⟩
  | .hbm, ⟨58, _⟩ => ⟨S16x1024x1, .i1⟩
  | .hbm, ⟨59, _⟩ => ⟨S_, .i32⟩
  | .hbm, ⟨60, _⟩ => ⟨S16x1024x1, .i32⟩
  | .hbm, ⟨61, _⟩ => ⟨S16x1024x1, .i32⟩
  | .hbm, ⟨62, _⟩ => ⟨S16x1024x1, .i32⟩
  | .hbm, ⟨63, _⟩ => ⟨S1, .i32⟩
  | .hbm, ⟨64, _⟩ => ⟨S_, .i32⟩
  | .hbm, ⟨65, _⟩ => ⟨S16x1024x1, .i32⟩
  | .hbm, ⟨66, _⟩ => ⟨S16x1024x1, .i1⟩
  | .hbm, ⟨67, _⟩ => ⟨S1x1x1, .i32⟩
  | .hbm, ⟨68, _⟩ => ⟨S16x1024x1, .i32⟩
  | .hbm, ⟨69, _⟩ => ⟨S16x1024x1, .i1⟩
  | .hbm, ⟨70, _⟩ => ⟨S16x1024x1, .i1⟩
  | .hbm, ⟨71, _⟩ => ⟨S_, .i1⟩
  | .hbm, ⟨72, _⟩ => ⟨S16x1024, .i1⟩
  | .hbm, ⟨73, _⟩ => ⟨S16x1024x3, .f32⟩
  | .hbm, ⟨74, _⟩ => ⟨S16x1024x3, .i1⟩
  | .hbm, ⟨75, _⟩ => ⟨S_, .f32⟩
  | .hbm, ⟨76, _⟩ => ⟨S16x1024x3, .f32⟩
  | .hbm, ⟨77, _⟩ => ⟨S16x1024x3, .f32⟩
  | _, _ => ⟨S16x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_6 : Ref sig .tc := ⟨.hbm, 13, rfl⟩
abbrev main_while0c_v7 : Ref sig .tc := ⟨.hbm, 14, rfl⟩
abbrev main_while0b_v7 : Ref sig .tc := ⟨.hbm, 15, rfl⟩
abbrev main_while0b_call0_c : Ref sig .tc := ⟨.hbm, 16, rfl⟩
abbrev main_while0b_call0_v0 : Ref sig .tc := ⟨.hbm, 17, rfl⟩
abbrev main_while0b_call0_v1 : Ref sig .tc := ⟨.hbm, 18, rfl⟩
abbrev main_while0b_call0_c_0 : Ref sig .tc := ⟨.hbm, 19, rfl⟩
abbrev main_while0b_call0_v2 : Ref sig .tc := ⟨.hbm, 20, rfl⟩
abbrev main_while0b_call0_v3 : Ref sig .tc := ⟨.hbm, 21, rfl⟩
abbrev main_while0b_call0_v4 : Ref sig .tc := ⟨.hbm, 22, rfl⟩
abbrev main_while0b_call0_c_1 : Ref sig .tc := ⟨.hbm, 23, rfl⟩
abbrev main_while0b_call0_c_2 : Ref sig .tc := ⟨.hbm, 24, rfl⟩
abbrev main_while0b_call0_v5 : Ref sig .tc := ⟨.hbm, 25, rfl⟩
abbrev main_while0b_call0_v6 : Ref sig .tc := ⟨.hbm, 26, rfl⟩
abbrev main_while0b_call0_v7 : Ref sig .tc := ⟨.hbm, 27, rfl⟩
abbrev main_while0b_call0_v8 : Ref sig .tc := ⟨.hbm, 28, rfl⟩
abbrev main_while0b_call0_v9 : Ref sig .tc := ⟨.hbm, 29, rfl⟩
abbrev main_while0b_call0_v10 : Ref sig .tc := ⟨.hbm, 30, rfl⟩
abbrev main_while0b_call0_c_3 : Ref sig .tc := ⟨.hbm, 31, rfl⟩
abbrev main_while0b_call0_v11 : Ref sig .tc := ⟨.hbm, 32, rfl⟩
abbrev main_while0b_call0_v12 : Ref sig .tc := ⟨.hbm, 33, rfl⟩
abbrev main_while0b_call0_v13 : Ref sig .tc := ⟨.hbm, 34, rfl⟩
abbrev main_while0b_call0_cst : Ref sig .tc := ⟨.hbm, 35, rfl⟩
abbrev main_while0b_call0_v14 : Ref sig .tc := ⟨.hbm, 36, rfl⟩
abbrev main_while0b_v8 : Ref sig .tc := ⟨.hbm, 37, rfl⟩
abbrev main_while0b_v9 : Ref sig .tc := ⟨.hbm, 38, rfl⟩
abbrev main_while0b_v10 : Ref sig .tc := ⟨.hbm, 39, rfl⟩
abbrev main_while0b_v11 : Ref sig .tc := ⟨.hbm, 40, rfl⟩
abbrev main_while0b_cst_6 : Ref sig .tc := ⟨.hbm, 41, rfl⟩
abbrev main_while0b_v12 : Ref sig .tc := ⟨.hbm, 42, rfl⟩
abbrev main_while0b_v13 : Ref sig .tc := ⟨.hbm, 43, rfl⟩
abbrev main_while0b_call1_v0 : Ref sig .tc := ⟨.hbm, 44, rfl⟩
abbrev main_while0b_call1_cst : Ref sig .tc := ⟨.hbm, 45, rfl⟩
abbrev main_while0b_call1_c : Ref sig .tc := ⟨.hbm, 46, rfl⟩
abbrev main_while0b_call1_v1_0 : Ref sig .tc := ⟨.hbm, 47, rfl⟩
abbrev main_while0b_v14 : Ref sig .tc := ⟨.hbm, 48, rfl⟩
abbrev main_while0b_call2_v0 : Ref sig .tc := ⟨.hbm, 49, rfl⟩
abbrev main_while0b_call2_c : Ref sig .tc := ⟨.hbm, 50, rfl⟩
abbrev main_while0b_v15 : Ref sig .tc := ⟨.hbm, 51, rfl⟩
abbrev main_while0b_c_7 : Ref sig .tc := ⟨.hbm, 52, rfl⟩
abbrev main_while0b_v16 : Ref sig .tc := ⟨.hbm, 53, rfl⟩
abbrev main_v4 : Ref sig .tc := ⟨.hbm, 54, rfl⟩
abbrev main_v5 : Ref sig .tc := ⟨.hbm, 55, rfl⟩
abbrev main_call3_c : Ref sig .tc := ⟨.hbm, 56, rfl⟩
abbrev main_call3_v0 : Ref sig .tc := ⟨.hbm, 57, rfl⟩
abbrev main_call3_v1 : Ref sig .tc := ⟨.hbm, 58, rfl⟩
abbrev main_call3_c_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_c_1 : Ref sig .tc := ⟨.hbm, 63, rfl⟩
abbrev main_call3_c_2 : Ref sig .tc := ⟨.hbm, 64, rfl⟩
abbrev main_call3_v5 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_v9 : Ref sig .tc := ⟨.hbm, 69, rfl⟩
abbrev main_call3_v10 : Ref sig .tc := ⟨.hbm, 70, rfl⟩
abbrev main_call3_c_3 : Ref sig .tc := ⟨.hbm, 71, rfl⟩
abbrev main_call3_v11 : Ref sig .tc := ⟨.hbm, 72, rfl⟩
abbrev main_call3_v12 : Ref sig .tc := ⟨.hbm, 73, rfl⟩
abbrev main_call3_v13 : Ref sig .tc := ⟨.hbm, 74, rfl⟩
abbrev main_call3_cst : Ref sig .tc := ⟨.hbm, 75, rfl⟩
abbrev main_call3_v14 : Ref sig .tc := ⟨.hbm, 76, rfl⟩
abbrev main_v6 : Ref sig .tc := ⟨.hbm, 77, rfl⟩

abbrev nD : Nat := 1
abbrev τ : Topo := Topo.v7x

variable {F : FTy → Type} [FloatOps F]

abbrev main_while0_count : Scf.Loop 32 := ⟨0#32, 1024#32, 1#32⟩
-- ==== Proof.KTrip.lean ====
/- One trip of the kernel's loop, as plain functions of the arrays it reads: the new distances chunk by chunk, the
   largest distance and its first index in each chunk, the coordinates there, the same over the sixteen chunks, and the
   row of the next point. Then: the trip that the run finds is these functions. -/
module

public import proofs.«01_k».proof.Proof.Gen.KernelIdeal.Loops
public import Idealize.ShloMosaic.Lib.Pipeline.FrameBody
public import Idealize.ShloMosaic.Lib.Pointwise

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- Chunk `n` lies inside the array. -/
theorem ck_inb (n : Fin 16) : ∀ a, (![0, 512 * n.val] : Fin 2 → ℕ) a + S16x512.size a ≤ S16x8192.size a := by
  fin_cases n <;> decide

/-- The 512 columns of chunk `n`. -/
def ck (n : Fin 16) (X : Vec F S16x8192 .f32) : Vec F S16x512 .f32 :=
  View.ld X (Rect.unit (s := S16x8192) ![0, 512 * n.val] S16x512.size (ck_inb n))

/-- What the loop carries: the coordinates of the point last chosen, and the row to store. -/
abbrev Acc (F : FTy → Type) := FVec F S16x1 .f32 × FVec F S16x1 .f32 × FVec F S16x1 .f32 × FVec F S1x48 .f32

/-- The first column of each of the sixteen rows, as what the loop carries first. -/
def acc0 (x y z : Vec F S16x8192 .f32) : Acc F :=
  let h (X : Vec F S16x8192 .f32) : Vec F S16x1 .f32 := View.ld X (Rect.unit (s := S16x8192) ![0, 0] S16x1.size inb_S16x8192_S16x1_0_0)
  (k0_pay4 (h x), k0_pay5 (h y), k0_pay6 (h z), k0_pay7 (h x) (h y) (h z))

/-- A chunk's distances, lowered to the distance from the point `(fx, fy, fz)`. -/
def chD (fx fy fz : FVec F S16x1 .f32) (x y z d : Vec F S16x512 .f32) : FVec F S16x512 .f32 :=
  k0_pay14 fx fy fz x y z d

/-- A chunk's largest distance. -/
def chM (d : FVec F S16x512 .f32) : FVec F S16x1 .f32 :=
  shapeCast S16x1 (multiReduction .maximumf [1] S16 d 0xFF800000#32 reduces_S16x512_S16 (.inl rfl) rfl) shapeCasts_S16_S16x1

/-- A chunk's column numbers. -/
def chJ (v4 : IVec S16x512 32) (b : BitVec 32) : IVec S16x512 32 := addi v4 (broadcast S16x512 b)

/-- The smallest column number at which a chunk's largest distance stands. -/
def chI (v4 : IVec S16x512 32) (b : BitVec 32) (d : FVec F S16x512 .f32) : IVec S16x1 32 :=
  shapeCast S16x1 (multiReductionI .minsi [1] S16
    (select (cmpf .oeq d (broadcastTo S16x512 (chM d) broadcasts_S16x1_S16x512)) (chJ v4 b) (broadcast S16x512 8192#32))
    2147483647#32 reduces_S16x512_S16 rfl) shapeCasts_S16_S16x1

/-- A coordinate at that column: the sum of the chunk with every other column replaced by zero. -/
def chC (v4 : IVec S16x512 32) (b : BitVec 32) (d : FVec F S16x512 .f32) (x : Vec F S16x512 .f32) : FVec F S16x1 .f32 :=
  shapeCast S16x1 (multiReduction .add [1] S16
    (select (cmpi .eq (chJ v4 b) (broadcastTo S16x512 (chI v4 b d) broadcasts_S16x1_S16x512))
      (shapeCast S16x512 x shapeCasts_S16x512_S16x512) (k0_pay2 (F := F)))
    0x00000000#32 reduces_S16x512_S16 (.inl rfl) rfl) shapeCasts_S16_S16x1

/-- Sixteen columns side by side. -/
def cat16 {α : Type} (f : Fin 16 → S16x1.Idx → α) : S16x16.Idx → α :=
  concatenate S16x16 1 [⟨S16x1, f 0⟩, ⟨S16x1, f 1⟩, ⟨S16x1, f 2⟩, ⟨S16x1, f 3⟩, ⟨S16x1, f 4⟩, ⟨S16x1, f 5⟩, ⟨S16x1, f 6⟩, ⟨S16x1, f 7⟩, ⟨S16x1, f 8⟩, ⟨S16x1, f 9⟩, ⟨S16x1, f 10⟩, ⟨S16x1, f 11⟩, ⟨S16x1, f 12⟩, ⟨S16x1, f 13⟩, ⟨S16x1, f 14⟩, ⟨S16x1, f 15⟩] concatenates_S16x1_S16x1_S16x1_S16x1_S16x1_S16x1_S16x1_S16x1_S16x1_S16x1_S16x1_S16x1_S16x1_S16x1_S16x1_S16x1_S16x16_d1

/-- The number of chunk `n`'s first column. -/
def base (n : Fin 16) : BitVec 32 := BitVec.ofNat 32 (512 * n.val)

/-- Chunk `n`'s distances after the trip. -/
def nd (x y z D : Vec F S16x8192 .f32) (acc : Acc F) (n : Fin 16) : FVec F S16x512 .f32 :=
  chD acc.1 acc.2.1 acc.2.2.1 (ck n x) (ck n y) (ck n z) (ck n D)

/-- Which chunk wins: the mask of the chunk that holds the smallest column number among those whose largest distance is the
    largest of all. -/
def win (v4 : IVec S16x512 32) (d : Fin 16 → FVec F S16x512 .f32) : IVec S16x16 1 :=
  k0_pay214 (cat16 fun n => chM (d n)) (cat16 fun n => chI v4 (base n) (d n))

/-- A coordinate of the winner. -/
def pick (v4 : IVec S16x512 32) (d : Fin 16 → FVec F S16x512 .f32) (x : Vec F S16x8192 .f32) : FVec F S16x1 .f32 :=
  k0_pay218 k0_pay3 (win v4 d) (cat16 fun n => chC v4 (base n) (d n) (ck n x))

/-- Three columns of sixteen as one row of forty-eight. -/
def row (a b c : FVec F S16x1 .f32) : FVec F S1x48 .f32 :=
  concatenate S1x48 1 [⟨S1x16, shapeCast S1x16 a shapeCasts_S16x1_S1x16⟩, ⟨S1x16, shapeCast S1x16 b shapeCasts_S16x1_S1x16⟩, ⟨S1x16, shapeCast S1x16 c shapeCasts_S16x1_S1x16⟩] concatenates_S1x16_S1x16_S1x16_S1x48_d1

/-- What the trip carries on. -/
def stepA (v4 : IVec S16x512 32) (x y z D : Vec F S16x8192 .f32) (acc : Acc F) : Acc F :=
  let p := pick v4 (nd x y z D acc)
  (p x, p y, p z, row (p x) (p y) (p z))

/-- The distances after the trip: column `i` is read in its chunk. -/
def stepD (x y z D : Vec F S16x8192 .f32) (acc : Acc F) : Vec F S16x8192 .f32 := fun i =>
  nd x y z D acc ⟨(i 1).val / 512, by have h : (i 1).val < 8192 := (i 1).isLt; omega⟩
    (ix2 (i 0) ⟨(i 1).val % 512, Nat.mod_lt _ (by decide)⟩)

set_option maxHeartbeats 4000000 in
/-- What the run's trip carries on is `stepA`. -/
theorem tripR_eq (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S1024x48 .f32) (harg3 : arg3.IsWhole) (arg4 : Memref sig .tc .vmem S16x8192 .f32) (harg4 : arg4.IsWhole) (v4 : IVec S16x512 32) (X0 : BufTy.Contents (Elt F) arg0.view.ty) (X1 : BufTy.Contents (Elt F) arg1.view.ty) (X2 : BufTy.Contents (Elt F) arg2.view.ty) (k : Fin k0_t1_loop.trips) (acc : Acc F)
    (f3 : BufTy.Contents (Elt F) arg3.view.ty) (f4 : BufTy.Contents (Elt F) arg4.view.ty) :
    tripR_k0_t1 (F := F) 𝒱 c bd arg0 harg0 arg1 harg1 arg2 harg2 arg3 harg3 arg4 harg4 v4 X0 X1 X2 k acc f3 f4
      = stepA v4 (arg0.view.read (Elt F) X0) (arg1.view.read (Elt F) X1) (arg2.view.read (Elt F) X2) (arg4.view.read (Elt F) f4) acc := by
  unfold tripR_k0_t1 trip_k0_t1
  sl_kernel_rfl

/-- The trip stores the carried row at row `k`. -/
theorem tripL3_eq (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S1024x48 .f32) (harg3 : arg3.IsWhole) (arg4 : Memref sig .tc .vmem S16x8192 .f32) (harg4 : arg4.IsWhole) (v4 : IVec S16x512 32) (X0 : BufTy.Contents (Elt F) arg0.view.ty) (X1 : BufTy.Contents (Elt F) arg1.view.ty) (X2 : BufTy.Contents (Elt F) arg2.view.ty) (k : Fin k0_t1_loop.trips) (acc : Acc F)
    (f3 : BufTy.Contents (Elt F) arg3.view.ty) (f4 : BufTy.Contents (Elt F) arg4.view.ty) :
    (tripL_k0_t1 (F := F) 𝒱 c bd arg0 harg0 arg1 harg1 arg2 harg2 arg3 harg3 arg4 harg4 v4 X0 X1 X2 k acc f3 f4).1
      = [⟨Rect.unit (s := S1024x48) (k0_off1 k) S1x48.size (k0_off1_inb k), acc.2.2.2⟩] := by
  unfold tripL_k0_t1 trip_k0_t1
  sl_kernel_rfl

/-- The piece the trip stores over chunk `n`. -/
def pc (x y z D : Vec F S16x8192 .f32) (acc : Acc F) (n : Fin 16) : View.Piece (Elt F) S16x8192 .f32 :=
  ⟨Rect.unit (s := S16x8192) ![0, 512 * n.val] S16x512.size (ck_inb n),
    shapeCast S16x512 (nd x y z D acc n) shapeCasts_S16x512_S16x512⟩

set_option maxHeartbeats 4000000 in
/-- The trip stores one piece over each chunk. -/
theorem tripL4_eq (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S1024x48 .f32) (harg3 : arg3.IsWhole) (arg4 : Memref sig .tc .vmem S16x8192 .f32) (harg4 : arg4.IsWhole) (v4 : IVec S16x512 32) (X0 : BufTy.Contents (Elt F) arg0.view.ty) (X1 : BufTy.Contents (Elt F) arg1.view.ty) (X2 : BufTy.Contents (Elt F) arg2.view.ty) (k : Fin k0_t1_loop.trips) (acc : Acc F)
    (f3 : BufTy.Contents (Elt F) arg3.view.ty) (f4 : BufTy.Contents (Elt F) arg4.view.ty) :
    (tripL_k0_t1 (F := F) 𝒱 c bd arg0 harg0 arg1 harg1 arg2 harg2 arg3 harg3 arg4 harg4 v4 X0 X1 X2 k acc f3 f4).2
      = [15, 14, 13, 12, 11, 10, 9, 8, 7, 6, 5, 4, 3, 2, 1, 0].map (pc (arg0.view.read (Elt F) X0) (arg1.view.read (Elt F) X1) (arg2.view.read (Elt F) X2) (arg4.view.read (Elt F) f4) acc) := by
  unfold tripL_k0_t1 trip_k0_t1
  sl_kernel_rfl

end Cert.KernelIdeal.Fps

end
-- ==== Proof.KLoop.lean ====
/- The kernel's loop, as a recursion over plain arrays: what the carried values and the distances are before trip `k`, and
   that after the last trip row `k` of the output is the row carried into trip `k`, whatever the output held before. -/
module

public import proofs.«01_k».proof.Proof.KTrip
public import Idealize.ShloMosaic.Lib.WritesUnit

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- The column numbers of one chunk. -/
def v4 : IVec S16x512 32 := iota .tc S16x512 32 [1] iota_S16x512_d1_w32

/-- What is carried, and the distances, before trip `k`. -/
def it (x y z : Vec F S16x8192 .f32) : ℕ → Acc F × Vec F S16x8192 .f32
  | 0 => (acc0 x y z, k0_pay1)
  | k + 1 => (stepA v4 x y z (it x y z k).2 (it x y z k).1, stepD x y z (it x y z k).2 (it x y z k).1)

/-- The kernel's output: row `k` is the row carried into trip `k`. -/
def OUT (x y z : Vec F S16x8192 .f32) : Vec F S1024x48 .f32 := fun i => (it x y z (i 0).val).1.2.2.2 (ix2 0 (i 1))

theorem trips_eq : k0_t1_loop.trips = 1024 := by decide

/-- Every index of the array lies in its chunk. -/
theorem mem_pc (x y z D : Vec F S16x8192 .f32) (acc : Acc F) (i : S16x8192.Idx) (n : Fin 16) (hn : (i 1).val / 512 = n.val) :
    i ∈ (pc x y z D acc n).1.set := by
  unfold pc
  rw [Rect.mem_set_unit]
  intro a
  have h0 : (i 0).val < 16 := (i 0).isLt
  fin_cases a
  · exact ⟨Nat.zero_le _, by simpa [S16x512] using h0⟩
  · have : 512 * n.val ≤ (i 1).val ∧ (i 1).val < 512 * n.val + 512 := by omega
    simpa [S16x512] using this

/-- An index of a chunk, from its coordinates' values. -/
theorem ix2_of_vals (j : S16x512.Idx) {a : Fin 16} {b : Fin 512} (ha : a.val = (j 0).val) (hb : b.val = (j 1).val) :
    ix2 (n0 := 16) (n1 := 512) a b = j := by
  rw [show a = j 0 from Fin.ext ha, show b = j 1 from Fin.ext hb]
  exact (eq_ix2 (n0 := 16) (n1 := 512) j).symm

/-- A chunk's piece holds the new distances at its place. -/
theorem pc_val (x y z D : Vec F S16x8192 .f32) (acc : Acc F) (n : Fin 16) (j : (pc x y z D acc n).1.shape.Idx) :
    (pc x y z D acc n).2 j = stepD x y z D acc ((pc x y z D acc n).1.emb j) := by
  unfold pc stepD
  rw [shapeCast_self]
  have h0 : ((Rect.unit (s := S16x8192) ![0, 512 * n.val] S16x512.size (ck_inb n)).emb j 0).val = (j 0).val := by
    show 0 + 1 * (j 0).val = _
    omega
  have h1 : ((Rect.unit (s := S16x8192) ![0, 512 * n.val] S16x512.size (ck_inb n)).emb j 1).val = 512 * n.val + (j 1).val := by
    show 512 * n.val + 1 * (j 1).val = _
    omega
  have hj : (j 1).val < 512 := (j 1).isLt
  dsimp only
  have e1 : (⟨((Rect.unit (s := S16x8192) ![0, 512 * n.val] S16x512.size (ck_inb n)).emb j 1).val / 512, by rw [h1]; omega⟩ : Fin 16) = n :=
    Fin.ext (by show _ / 512 = _; rw [h1]; omega)
  have e2 : (ix2 ((Rect.unit (s := S16x8192) ![0, 512 * n.val] S16x512.size (ck_inb n)).emb j 0)
      ⟨((Rect.unit (s := S16x8192) ![0, 512 * n.val] S16x512.size (ck_inb n)).emb j 1).val % 512, Nat.mod_lt _ (by decide)⟩ : S16x512.Idx) = j := by
    refine ix2_of_vals j h0 ?_
    show _ % 512 = _
    rw [h1]; omega
  exact (congrArg₂ (nd x y z D acc) e1 e2).symm

/-- The pieces of one trip, read back: the new distances. -/
theorem read_pcs (arg4 : Memref sig .tc .vmem S16x8192 .f32) (f4 : BufTy.Contents (Elt F) arg4.view.ty)
    (x y z D : Vec F S16x8192 .f32) (acc : Acc F) :
    arg4.view.read (Elt F) (arg4.view.writes (Elt F) f4 ([15, 14, 13, 12, 11, 10, 9, 8, 7, 6, 5, 4, 3, 2, 1, 0].map (pc x y z D acc)))
      = stepD x y z D acc := by
  funext i
  refine View.read_writes_apply_of_pieces _ _ (stepD x y z D acc) _ ?_ i ?_
  · intro p hp
    obtain ⟨n, _, rfl⟩ := List.mem_map.mp hp
    exact pc_val x y z D acc n
  · have h : (i 1).val < 8192 := (i 1).isLt
    refine ⟨_, List.mem_map_of_mem (a := (⟨(i 1).val / 512, by omega⟩ : Fin 16)) ?_, mem_pc x y z D acc i _ rfl⟩
    generalize (⟨(i 1).val / 512, by omega⟩ : Fin 16) = n
    fin_cases n <;> decide

section

variable (𝒱 : Variants) (c : Dev nD) (bd : Option 𝒱.V) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S1024x48 .f32) (harg3 : arg3.IsWhole) (arg4 : Memref sig .tc .vmem S16x8192 .f32) (harg4 : arg4.IsWhole)
  (X0 : BufTy.Contents (Elt F) arg0.view.ty) (X1 : BufTy.Contents (Elt F) arg1.view.ty) (X2 : BufTy.Contents (Elt F) arg2.view.ty)
  (G3 : BufTy.Contents (Elt F) arg3.view.ty) (G4 : BufTy.Contents (Elt F) arg4.view.ty)

/-- The state before trip `k` is the recursion's. -/
theorem st_spec (hG : arg4.view.read (Elt F) G4 = k0_pay1) : ∀ k : ℕ, k ≤ k0_t1_loop.trips →
    (st_k0_t1 (F := F) 𝒱 c bd arg0 harg0 arg1 harg1 arg2 harg2 arg3 harg3 arg4 harg4 v4 X0 X1 X2 G3 G4
        (acc0 (arg0.view.read (Elt F) X0) (arg1.view.read (Elt F) X1) (arg2.view.read (Elt F) X2)) k).1
      = (it (arg0.view.read (Elt F) X0) (arg1.view.read (Elt F) X1) (arg2.view.read (Elt F) X2) k).1
    ∧ arg4.view.read (Elt F) (arg4.view.writes (Elt F) G4 (st_k0_t1 (F := F) 𝒱 c bd arg0 harg0 arg1 harg1 arg2 harg2 arg3 harg3 arg4 harg4 v4 X0 X1 X2 G3 G4
        (acc0 (arg0.view.read (Elt F) X0) (arg1.view.read (Elt F) X1) (arg2.view.read (Elt F) X2)) k).2.2)
      = (it (arg0.view.read (Elt F) X0) (arg1.view.read (Elt F) X1) (arg2.view.read (Elt F) X2) k).2
    ∧ ∀ i : S1024x48.Idx, (i 0).val < k →
      arg3.view.read (Elt F) (arg3.view.writes (Elt F) G3 (st_k0_t1 (F := F) 𝒱 c bd arg0 harg0 arg1 harg1 arg2 harg2 arg3 harg3 arg4 harg4 v4 X0 X1 X2 G3 G4
        (acc0 (arg0.view.read (Elt F) X0) (arg1.view.read (Elt F) X1) (arg2.view.read (Elt F) X2)) k).2.1) i
      = OUT (arg0.view.read (Elt F) X0) (arg1.view.read (Elt F) X1) (arg2.view.read (Elt F) X2) i
  | 0, _ => ⟨rfl, hG, fun i hi => absurd hi (Nat.not_lt_zero _)⟩
  | k + 1, hk => by
    obtain ⟨h1, h2, h3⟩ := st_spec hG k (Nat.le_of_succ_le hk)
    have hs := st_k0_t1_succ (F := F) 𝒱 c bd arg0 harg0 arg1 harg1 arg2 harg2 arg3 harg3 arg4 harg4 v4 X0 X1 X2 G3 G4
        (acc0 (arg0.view.read (Elt F) X0) (arg1.view.read (Elt F) X1) (arg2.view.read (Elt F) X2)) ⟨k, hk⟩
    rw [tripR_eq, tripL3_eq, tripL4_eq] at hs
    dsimp only at hs
    rw [hs]
    clear hs
    generalize st_k0_t1 (F := F) 𝒱 c bd arg0 harg0 arg1 harg1 arg2 harg2 arg3 harg3 arg4 harg4 v4 X0 X1 X2 G3 G4
        (acc0 (arg0.view.read (Elt F) X0) (arg1.view.read (Elt F) X1) (arg2.view.read (Elt F) X2)) k = s at h1 h2 h3 ⊢
    dsimp only
    refine ⟨by rw [h1, h2]; rfl, ?_, fun i hi => ?_⟩
    · rw [View.writes_append, read_pcs, h1, h2]; rfl
    · rcases Nat.lt_succ_iff_lt_or_eq.mp hi with hlt | heq
      · exact (View.read_writes_cons_unit_of_not_mem _ _ (k0_off1_inb ⟨k, hk⟩) _ _ i (k0_off1_eq ⟨k, hk⟩) (0 : Fin 2)
          (Or.inl hlt)).trans (h3 i hlt)
      · refine (View.read_writes_cons_unit_of_mem _ _ (k0_off1_inb ⟨k, hk⟩) _ _ i (ix2 (n0 := 1) (n1 := 48) 0 (i 1))
          (k0_off1_eq ⟨k, hk⟩) ?_).trans ?_
        · intro a
          fin_cases a
          · show (i 0).val = k + 0; omega
          · show (i 1).val = 0 + (i 1).val; omega
        · rw [h1]
          unfold OUT
          rw [heq]

/-- After the last trip the output reads `OUT`. -/
theorem read_out (hG : arg4.view.read (Elt F) G4 = k0_pay1) :
    arg3.view.read (Elt F) (arg3.view.writes (Elt F) G3 (st_k0_t1 (F := F) 𝒱 c bd arg0 harg0 arg1 harg1 arg2 harg2 arg3 harg3 arg4 harg4 v4 X0 X1 X2 G3 G4
        (acc0 (arg0.view.read (Elt F) X0) (arg1.view.read (Elt F) X1) (arg2.view.read (Elt F) X2)) k0_t1_loop.trips).2.1)
      = OUT (arg0.view.read (Elt F) X0) (arg1.view.read (Elt F) X1) (arg2.view.read (Elt F) X2) := by
  funext i
  exact (st_spec 𝒱 c bd arg0 harg0 arg1 harg1 arg2 harg2 arg3 harg3 arg4 harg4 X0 X1 X2 G3 G4 hG _ le_rfl).2.2 i
    (by rw [trips_eq]; exact (i 0).isLt)

end

end Cert.KernelIdeal.Fps

end
-- ==== Proof.KFrame.lean ====
/- The frame of the kernel: its body's triple, with the output left at `Fps.OUT` of the three input blocks, and from it the
   pipeline's data, the run of @main and the frame. -/
module

public import proofs.«01_k».proof.Proof.KLoop
public import proofs.«01_k».proof.Proof.Gen.KernelIdeal.Frame.Runs
public import Idealize.ShloMosaic.Lib.Claim
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1000000 in
/-- The body, on whole staging memrefs: it ends with the inputs as they were and the output at `OUT` of them. -/
theorem kernel_triple (c : Dev nD) (arg0 : Memref sig .tc .vmem S16x8192 .f32) (harg0 : arg0.IsWhole) (arg1 : Memref sig .tc .vmem S16x8192 .f32) (harg1 : arg1.IsWhole) (arg2 : Memref sig .tc .vmem S16x8192 .f32) (harg2 : arg2.IsWhole) (arg3 : Memref sig .tc .vmem S1024x48 .f32) (harg3 : arg3.IsWhole) (arg4 : Memref sig .tc .vmem S16x8192 .f32) (harg4 : arg4.IsWhole)
    (x0 : Vec F S16x8192 .f32) (x1 : Vec F S16x8192 .f32) (x2 : Vec F S16x8192 .f32)
      (E : Set ℕ) (K : PUnit → sProp 𝕄) :
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ owns (c : Thread nD τ) arg2 fullShare x2 ∗ owns (c : Thread nD τ) arg3 fullShare (OUT x0 x1 x2) ∗ (∃ d, owns (c : Thread nD τ) arg4 fullShare d)) -∗ K ⟨⟩))
          ⊢ wp frame (wpE (defs₀ (F := F)) Variants.none c none) E (cc0__fps_kernel arg0 harg0 arg1 harg1 arg2 harg2 arg3 harg3 arg4 harg4) K := by
  simp only [cc0__fps_kernel_eq_skeleton]; unfold cc0__fps_kernel_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg0.eq_unread hf0; obtain rfl := harg1.eq_unread hf1; obtain rfl := harg2.eq_unread hf2
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    refine (read_out _ _ _ arg0 harg0 arg1 harg1 arg2 harg2 arg3 harg3 arg4 harg4 _ _ _ _ _ ?_).trans ?_
    · exact View.read_writes_full _ _ inb_S16x8192_S16x8192_0_0 _ []
    · rw [harg0.read_unread, harg1.read_unread, harg2.read_unread]
  iexists _, _; isplitr; swap; · iexact HS0
  ipureintro; rfl

/-! ## What the outputs hold after each point -/

/-- What the outputs' staging buffers hold after the body at point `t`: `OUT` of
    the point's input blocks. -/
def outsAt0 (c : Dev nD) (t : Fin cfg0.N) : Vec F S1024x48 .f32 :=
  OUT (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩⟩
  iapply (kernel_triple c _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument ends unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Fps

end
-- ==== Proof.KRun.lean ====
/- What the kernel's whole run leaves in its result: the lines after the region, applied to `Fps.OUT` of the three arrays the
   lines before it make of the argument. -/
module

public import proofs.«01_k».proof.Proof.KFrame
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- A coordinate of every point: the slice of the argument, without its last axis. -/
def coordOf (off : Fin 3 → ℕ) (h : S16x8192x3.Slices off S16x8192x1) (a : Vec F S16x8192x3 .f32) : Vec F S16x8192 .f32 :=
  shapeCast S16x8192 (extractStridedSlice S16x8192x1 off a h) shapeCasts_S16x8192x1_S16x8192

theorem V_x (c : Dev nD) : V m c main_call0_v1
    = coordOf ![0, 0, 0] slices_S16x8192x3_S16x8192x1_0_0_0 (m ((c : Thread nD τ).loc main_arg0)) := by
  unfold V V0
  simp only [hostOps0, List.flatten_cons, List.flatten_nil, List.append_nil]
  after_results
  rfl

theorem V_y (c : Dev nD) : V m c main_call0_v3
    = coordOf ![0, 0, 1] slices_S16x8192x3_S16x8192x1_0_0_1 (m ((c : Thread nD τ).loc main_arg0)) := by
  unfold V V0
  simp only [hostOps0, List.flatten_cons, List.flatten_nil, List.append_nil]
  after_results
  rfl

theorem V_z (c : Dev nD) : V m c main_call0_v5
    = coordOf ![0, 0, 2] slices_S16x8192x3_S16x8192x1_0_0_2 (m ((c : Thread nD τ).loc main_arg0)) := by
  unfold V V0
  simp only [hostOps0, List.flatten_cons, List.flatten_nil, List.append_nil]
  after_results
  rfl

/-- The one block of each input is the whole array. -/
theorem iblk_0 (c : Dev nD) (t : Fin cfg0.N) : iblk m c 0 t = V m c main_call0_v1 := by
  obtain rfl := fin_N0 t
  have hz : (fun a => win0_0.index t0_0 a * main_call0_v1.ty.shape.size a) = fun _ => 0 := funext fun a => by fin_cases a <;> decide
  exact Memref.read_access_unit_zero (Elt F) main_call0_v1 hz (fun a => by rw [congrFun hz a]; simp) (V m c main_call0_v1)

theorem iblk_1 (c : Dev nD) (t : Fin cfg0.N) : iblk m c 1 t = V m c main_call0_v3 := by
  obtain rfl := fin_N0 t
  have hz : (fun a => win0_1.index t0_0 a * main_call0_v3.ty.shape.size a) = fun _ => 0 := funext fun a => by fin_cases a <;> decide
  exact Memref.read_access_unit_zero (Elt F) main_call0_v3 hz (fun a => by rw [congrFun hz a]; simp) (V m c main_call0_v3)

theorem iblk_2 (c : Dev nD) (t : Fin cfg0.N) : iblk m c 2 t = V m c main_call0_v5 := by
  obtain rfl := fin_N0 t
  have hz : (fun a => win0_2.index t0_0 a * main_call0_v5.ty.shape.size a) = fun _ => 0 := funext fun a => by fin_cases a <;> decide
  exact Memref.read_access_unit_zero (Elt F) main_call0_v5 hz (fun a => by rw [congrFun hz a]; simp) (V m c main_call0_v5)

/-- What the region leaves in its output array. -/
abbrev out (c : Dev nD) : Buf (Elt F) ((c : Thread nD τ).loc main_call0_v6) :=
  OUT (V m c main_call0_v1) (V m c main_call0_v3) (V m c main_call0_v5)

theorem outsAt_eq (c : Dev nD) (t : Fin cfg0.N) : outsAt0 m c t = out m c := by
  unfold outsAt0
  rw [iblk_0, iblk_1, iblk_2]

/-- The one write-back writes it. -/
theorem flushed_eq (c : Dev nD) (t : Fin cfg0.N) (hf : (cfg0.win 3).flush t = true) :
    (dats m 0 c).flushed 3 t = ((cfg0.win 3).blk t).view.read (Elt F) (out m c) := by
  obtain rfl := fin_N0 t
  show (cfg0.win 3).cut (grid0.coords t0_0) ((dats m 0 c).after 3 t0_0) = _
  rw [after0_3, outsAt_eq]
  have hz : (fun a => win0_3.index t0_0 a * main_call0_v6.ty.shape.size a) = fun _ => 0 := funext fun a => by fin_cases a <;> decide
  exact (Memref.read_access_unit_zero (Elt F) main_call0_v6 hz (fun a => by rw [congrFun hz a]; simp) (out m c)).symm

theorem final_o (c : Dev nD) : (dats m 0 c).arrAt 3 cfg0.N = out m c :=
  (dats m 0 c).arrAt_eq_of_cover 3 (out m c) (flushed_eq m c) fun i =>
    ⟨t0_0, flush0_3 t0_0, by
      show i ∈ ((View.whole main_call0_v6).slice (win0_3.rect t0_0)).set
      rw [View.set_slice_whole, Rect.mem_set_unit]
      intro a
      have h0 : (i 0 : Nat) < 1024 := (i 0).isLt
      have h1 : (i 1 : Nat) < 48 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1024 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 48 from by decide +kernel]; omega⟩

/-- One coordinate of the result: sixteen columns of the output array, turned, with an axis added. -/
def part (off : Fin 2 → ℕ) (h : S1024x48.Slices off S1024x16) (o : Vec F S1024x48 .f32) : Vec F S16x1024x1 .f32 :=
  broadcastInDim S16x1024x1 ![0, 1] bcast_S16x1024_S16x1024x1_0_1
    (transpose S16x1024 [1, 0] (extractStridedSlice S1024x16 off o h) transposes_S1024x16_S16x1024_1_0)

/-- The result from the output array. -/
def tail (o : Vec F S1024x48 .f32) : Vec F S16x1024x3 .f32 :=
  concatenate S16x1024x3 2 [⟨S16x1024x1, part ![0, 0] slices_S1024x48_S1024x16_0_0 o⟩,
    ⟨S16x1024x1, part ![0, 16] slices_S1024x48_S1024x16_0_16 o⟩, ⟨S16x1024x1, part ![0, 32] slices_S1024x48_S1024x16_0_32 o⟩]
    concatenates_S16x1024x1_S16x1024x1_S16x1024x1_S16x1024x3_d2

theorem tail_of (V : Valuation τ sig (Elt F)) : StableHlo.after hostOps1 V (Proc.devRef .tc main_v0)
    = tail (V (Proc.devRef .tc main_call0_v6)) := by
  simp only [hostOps1]
  after_results
  rfl

theorem arrRef_inj : Function.Injective (Pipeline.arrRef spec0) := by decide

/-- The run, read at its result and its argument. -/
theorem run : θ_run defs (onTc (τ := τ) (main (F := F))) ⟨m, fun _ => 0, ρ⟩ fun r => ∀ c : Dev nD,
      r.2.mem ((c : Thread nD τ).loc main_v0) = tail (OUT (V m c main_call0_v1) (V m c main_call0_v3) (V m c main_call0_v5))
      ∧ r.2.mem ((c : Thread nD τ).loc main_arg0) = m ((c : Thread nD τ).loc main_arg0) := by
  refine (θ_run defs _ _).mono (fun r h c => ⟨?_, ((h c).2 main_arg0 (Pipeline.mem_restRefs_of main_arg0 (by decide) (by decide))).trans
    (W_main_arg0 m (dats m) c)⟩) (run_main m ρ)
  refine ((h c).2 main_v0 (Pipeline.mem_restRefs_of main_v0 (by decide) (by decide))).trans ?_
  unfold Pipeline.afterTail₀
  rw [show List.flatten [hostOps1] = (hostOps1 : List (HloOp τ sig (Elt F))) from List.append_nil _, tail_of]
  refine congrArg tail ?_
  exact (Pipeline.withArrays_arr spec0 arrRef_inj c (V0 m c) _ 3).trans (final_o m c)

end Cert.KernelIdeal.Fps

end
-- ==== Proof.Math.lean ====
/- The mathematics of furthest point sampling, free of both programs: the first place of the largest value, the recursion
   over the points chosen, and the two facts by which a search in sixteen chunks finds that place. -/
module

public import Idealize.ShloMosaic.Lib.Pointwise

@[expose] public section

noncomputable section

namespace Cert.Fps

open Idealize.ShloMosaic

/-! ## The first place of the largest value -/

/-- `i` is the first place at which the largest value of `d` stands. -/
def IsArg {n : ℕ} (d : Fin n → EReal) (i : Fin n) : Prop := (∀ j, d j ≤ d i) ∧ ∀ j, d j = d i → i ≤ j

theorem IsArg.unique {n : ℕ} {d : Fin n → EReal} {i j : Fin n} (hi : IsArg d i) (hj : IsArg d j) : i = j :=
  le_antisymm (hi.2 j (le_antisymm (hi.1 j) (hj.1 i))) (hj.2 i (le_antisymm (hj.1 i) (hi.1 j)))

theorem exists_isArg {n : ℕ} [Nonempty (Fin n)] (d : Fin n → EReal) : ∃ i, IsArg d i := by
  obtain ⟨i, hi⟩ := Finite.exists_max d
  have hs : (Finset.univ.filter fun j => d j = d i).Nonempty := ⟨i, by simp⟩
  have hd : d ((Finset.univ.filter fun j => d j = d i).min' hs) = d i := (Finset.mem_filter.mp (Finset.min'_mem _ hs)).2
  refine ⟨(Finset.univ.filter fun j => d j = d i).min' hs, fun j => ?_, fun j hj => Finset.min'_le _ j ?_⟩
  · exact (hi j).trans hd.ge
  · exact Finset.mem_filter.mpr ⟨Finset.mem_univ _, hj.trans hd⟩

/-- The first place of the largest of the 8192 values. -/
def argLow (d : Fin 8192 → EReal) : Fin 8192 := (exists_isArg d).choose

theorem argLow_spec (d : Fin 8192 → EReal) : IsArg d (argLow d) := (exists_isArg d).choose_spec

theorem IsArg.eq_argLow {d : Fin 8192 → EReal} {i : Fin 8192} (h : IsArg d i) : i = argLow d := h.unique (argLow_spec d)

/-! ## The recursion -/

/-- The squared distance of two points. -/
def dist (p q : Fin 3 → EReal) : EReal := ∑ c, (p c - q c) * (p c - q c)

/-- The distances to the points chosen before step `k`, and the number of the `k`-th point: at first no point is chosen, and
    the first is number zero; afterwards the distances are lowered to the distance from the last point chosen, and the next
    is the first one furthest away. -/
def far (X : Fin 8192 → Fin 3 → EReal) : ℕ → (Fin 8192 → EReal) × Fin 8192
  | 0 => (fun _ => ⊤, 0)
  | k + 1 =>
    let d := fun i => min ((far X k).1 i) (dist (X i) (X (far X k).2))
    (d, argLow d)

/-- The cloud `b` of an array of clouds. -/
def pts (a : (⟨3, ![16, 8192, 3]⟩ : Shape).Idx → EReal) (b : Fin 16) : Fin 8192 → Fin 3 → EReal := fun i c =>
  a (ix3 (n0 := 16) (n1 := 8192) (n2 := 3) b i c)

/-- The points chosen: of cloud `b`, the `k`-th. -/
def centres (a : (⟨3, ![16, 8192, 3]⟩ : Shape).Idx → EReal) : (⟨3, ![16, 1024, 3]⟩ : Shape).Idx → EReal := fun i =>
  pts a (i 0) (far (pts a (i 0)) (i 1).val).2 (i 2)

/-! ## The search -/

/-- The running maximum, from the least value, is the value at the first place of the largest. -/
theorem fold_max_of_isArg {n : ℕ} {d : Fin n → EReal} {i : Fin n} (h : IsArg d i) :
    Finset.univ.fold max ⊥ d = d i :=
  le_antisymm ((Finset.fold_max_le _).2 ⟨bot_le, fun j _ => h.1 j⟩)
    ((Finset.le_fold_max _).2 (Or.inr ⟨i, Finset.mem_univ i, le_rfl⟩))

theorem toInt_minsi (a b : BitVec 32) : (IntOp.minsi a b).toInt = min a.toInt b.toInt := by
  unfold IntOp.minsi
  split <;> rename_i h <;> rw [BitVec.slt_iff_toInt_lt] at h <;> omega

/-- A running signed minimum, as an integer. -/
theorem toInt_fold_minsi {ι : Type} (s : Finset ι) (g : ι → BitVec 32) (a : BitVec 32) :
    (s.fold IntOp.minsi a g).toInt = s.fold min a.toInt fun j => (g j).toInt := by
  classical
  induction s using Finset.induction_on with
  | empty => rfl
  | insert x s hx ih => rw [Finset.fold_insert hx, Finset.fold_insert hx, toInt_minsi, ih]

theorem toInt_ofNat_lt {k : ℕ} (h : k ≤ 8192) : (BitVec.ofNat 32 k).toInt = k := by
  rw [BitVec.toInt_eq_toNat_cond, BitVec.toNat_ofNat, Nat.mod_eq_of_lt (by omega), if_pos (by omega)]

/-- The least number among the places of the largest value, every other place counting as 8192: the number of the first
    such place, when numbers grow with places. -/
theorem fold_min_key {n : ℕ} {d : Fin n → EReal} {i : Fin n} (h : IsArg d i) (kv : Fin n → ℕ)
    (hlt : ∀ j, kv j < 8192) (hm : ∀ j, i ≤ j → kv i ≤ kv j) :
    Finset.univ.fold IntOp.minsi 2147483647#32 (fun j => if d j = d i then BitVec.ofNat 32 (kv j) else 8192#32)
      = BitVec.ofNat 32 (kv i) := by
  apply BitVec.eq_of_toInt_eq
  rw [toInt_fold_minsi, toInt_ofNat_lt (hlt i).le]
  have hi := hlt i
  refine le_antisymm ((Finset.fold_min_le _).2 (Or.inr ⟨i, Finset.mem_univ i, ?_⟩)) ((Finset.le_fold_min _).2 ⟨?_, fun j _ => ?_⟩)
  · rw [if_pos rfl, toInt_ofNat_lt hi.le]
  · rw [show (2147483647#32).toInt = 2147483647 from by decide]; omega
  · split
    · rename_i hj
      have := hm j (h.2 j hj)
      rw [toInt_ofNat_lt (hlt j).le]; omega
    · rw [show (8192#32).toInt = 8192 from by decide]; omega

/-- The sum of the values with every number but one replaced by zero: the value at that number. -/
theorem sum_one_hot {n : ℕ} (i : Fin n) (kv : Fin n → ℕ) (hlt : ∀ j, kv j < 8192) (hinj : ∀ j, kv j = kv i → j = i)
    (x : Fin n → EReal) :
    (∑ j, Scalar.select (IntOp.cmpi .eq (BitVec.ofNat 32 (kv j)) (BitVec.ofNat 32 (kv i))) (x j) 0) = x i := by
  rw [Finset.sum_eq_single i]
  · rw [Scalar.select, if_pos]; simp [IntOp.cmpi]
  · intro j _ hj
    rw [Scalar.select, if_neg]
    intro h
    have e : BitVec.ofNat 32 (kv j) = BitVec.ofNat 32 (kv i) := by
      by_contra hne
      have hb : (BitVec.ofNat 32 (kv j) == BitVec.ofNat 32 (kv i)) = false := beq_eq_false_iff_ne.mpr hne
      rw [IntOp.cmpi, hb] at h
      exact absurd h (by decide)
    have e' := congrArg BitVec.toNat e
    rw [BitVec.toNat_ofNat, BitVec.toNat_ofNat, Nat.mod_eq_of_lt (by have := hlt j; omega), Nat.mod_eq_of_lt (by have := hlt i; omega)] at e'
    exact hj (hinj j e')
  · intro h; exact absurd (Finset.mem_univ i) h

/-- A column's number from its chunk and its place there. -/
def col (n : Fin 16) (j : Fin 512) : Fin 8192 := ⟨512 * n.val + j.val, by omega⟩

/-- The first furthest chunk and the first furthest place in it give the first furthest place. -/
theorem isArg_chunks {d : Fin 8192 → EReal} {I : Fin 16 → Fin 512} (hI : ∀ n, IsArg (fun j => d (col n j)) (I n))
    {N : Fin 16} (hN : IsArg (fun n => d (col n (I n))) N) : IsArg d (col N (I N)) := by
  have key : ∀ j : Fin 8192, col ⟨j.val / 512, by omega⟩ ⟨j.val % 512, Nat.mod_lt _ (by decide)⟩ = j := fun j =>
    Fin.ext (by show 512 * (j.val / 512) + j.val % 512 = j.val; omega)
  refine ⟨fun j => ?_, fun j hj => ?_⟩
  · rw [← key j]
    exact ((hI _).1 _).trans (hN.1 _)
  · rw [← key j] at hj ⊢
    generalize (⟨j.val / 512, by omega⟩ : Fin 16) = q at hj ⊢
    generalize (⟨j.val % 512, Nat.mod_lt _ (by decide)⟩ : Fin 512) = r at hj ⊢
    have h1 : d (col q r) ≤ d (col q (I q)) := (hI q).1 r
    have h2 : d (col q (I q)) ≤ d (col N (I N)) := hN.1 q
    have h3 : d (col q (I q)) = d (col N (I N)) := le_antisymm h2 (hj ▸ h1)
    have h4 : N ≤ q := hN.2 q h3
    rcases h4.lt_or_eq with hlt | heq
    · show 512 * N.val + (I N).val ≤ 512 * q.val + r.val
      have : N.val < q.val := hlt
      omega
    · subst heq
      have h5 : I N ≤ r := (hI N).2 r hj
      show 512 * N.val + (I N).val ≤ 512 * N.val + r.val
      have : (I N).val ≤ r.val := h5
      omega

end Cert.Fps

end
-- ==== Proof.KValue.lean ====
/- What one trip of the kernel computes at the ideal values: the distances lowered, and the coordinates of the first point
   furthest away. Then the kernel's recursion is furthest point sampling, and row `k` of its output holds the `k`-th point. -/
module

public import proofs.«01_k».proof.Proof.KLoop
public import proofs.«01_k».proof.Proof.Math
public import Idealize.ShloMosaic.Lib.Pipeline.Value

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Cert.Fps (IsArg argLow far col)

/-! ## The operations of one chunk, at an index -/

theorem ninf_eq : Ideal.ofBits FTy.f32 4286578688#32 = (⊥ : EReal) := by simp [Ideal.ofBits, Ideal.ieee]

theorem pinf_eq : Ideal.ofBits FTy.f32 2139095040#32 = (⊤ : EReal) := by simp [Ideal.ofBits, Ideal.ieee]

theorem ck_apply (n : Fin 16) (X : Vec Ideal S16x8192 .f32) (b : Fin 16) (j : Fin 512) :
    ck n X (ix2 b j) = X (ix2 b (col n j)) := by
  unfold ck
  pointwise
  rfl

theorem chD_apply (fx fy fz : FVec Ideal S16x1 .f32) (x y z d : FVec Ideal S16x512 .f32) (b : Fin 16) (j : Fin 512) :
    chD fx fy fz x y z d (ix2 b j)
      = min (d (ix2 b j)) ((x (ix2 b j) - fx (ix2 b 0)) * (x (ix2 b j) - fx (ix2 b 0))
          + (z (ix2 b j) - fz (ix2 b 0)) * (z (ix2 b j) - fz (ix2 b 0))
          + (y (ix2 b j) - fy (ix2 b 0)) * (y (ix2 b j) - fy (ix2 b 0))) := by
  unfold chD k0_pay14 k0_pay11 k0_pay12 k0_pay13
  pointwise

theorem chM_apply (d : FVec Ideal S16x512 .f32) (b : Fin 16) {i : Fin 512} (h : IsArg (fun j => d (ix2 b j)) i) :
    chM d (ix2 b 0) = d (ix2 b i) := by
  refine Eq.trans ?_ (Cert.Fps.fold_max_of_isArg h)
  unfold chM
  pointwise
  rw [ninf_eq]

theorem key_eq (n : Fin 16) (j : Fin 512) :
    IntOp.addi (BitVec.ofNat 32 j.val) (base n) = BitVec.ofNat 32 (col n j).val := by
  unfold base IntOp.addi
  rw [← BitVec.ofNat_add, Nat.add_comm]
  rfl

theorem chI_apply (d : FVec Ideal S16x512 .f32) (n : Fin 16) (b : Fin 16) {i : Fin 512} (h : IsArg (fun j => d (ix2 b j)) i) :
    chI v4 (base n) d (ix2 b 0) = BitVec.ofNat 32 (col n i).val := by
  refine Eq.trans ?_ (Cert.Fps.fold_min_key h (fun j => (col n j).val) (fun j => (col n j).isLt) (fun j hj => ?_))
  · unfold chI chJ v4
    pointwise
    simp only [chM_apply d b h, key_eq]
  · show 512 * n.val + i.val ≤ 512 * n.val + j.val
    have : i.val ≤ j.val := hj
    omega

theorem chC_apply (d x : FVec Ideal S16x512 .f32) (n : Fin 16) (b : Fin 16) {i : Fin 512} (h : IsArg (fun j => d (ix2 b j)) i) :
    chC v4 (base n) d x (ix2 b 0) = x (ix2 b i) := by
  refine Eq.trans ?_ (Cert.Fps.sum_one_hot i (fun j => (col n j).val) (fun j => (col n j).isLt) (fun j hj => ?_) fun j => x (ix2 b j))
  · have e := chI_apply d n b h
    unfold chC chJ k0_pay2
    generalize chI v4 (base n) d = w at e ⊢
    unfold v4
    pointwise
    simp only [e, key_eq]
  · have : 512 * n.val + j.val = 512 * n.val + i.val := hj
    exact Fin.ext (by omega)

/-! ## The sixteen chunks together -/

theorem cat16_apply {α : Type} (f : Fin 16 → S16x1.Idx → α) (b n : Fin 16) :
    cat16 f (ix2 b n) = f n (ix2 b 0) := by
  unfold cat16
  refine concatenate_ofFn_unit_apply (t := S16x16) (s₁ := S16x1) (1 : Fin 2) f _ rfl rfl (ix2 (n0 := 16) (n1 := 16) b n) n rfl
    (ix2 (n0 := 16) (n1 := 1) b 0) ?_
  intro a ha
  fin_cases a
  · rfl
  · exact absurd rfl ha

/-- A row of the distances of the sixteen chunks, end to end. -/
def glue (d : Fin 16 → FVec Ideal S16x512 .f32) (b : Fin 16) : Fin 8192 → EReal := fun i =>
  d ⟨i.val / 512, by omega⟩ (ix2 b ⟨i.val % 512, Nat.mod_lt _ (by decide)⟩)

theorem glue_col (d : Fin 16 → FVec Ideal S16x512 .f32) (b n : Fin 16) (j : Fin 512) :
    glue d b (col n j) = d n (ix2 b j) := by
  have e1 : (⟨(col n j).val / 512, by omega⟩ : Fin 16) = n := Fin.ext (by show (512 * n.val + j.val) / 512 = n.val; omega)
  have e2 : (⟨(col n j).val % 512, Nat.mod_lt _ (by decide)⟩ : Fin 512) = j :=
    Fin.ext (by show (512 * n.val + j.val) % 512 = j.val; omega)
  unfold glue
  rw [e1, e2]

theorem win_apply (d : Fin 16 → FVec Ideal S16x512 .f32) (b : Fin 16) {I : Fin 16 → Fin 512}
    (hI : ∀ n, IsArg (fun j => d n (ix2 b j)) (I n)) {N : Fin 16} (hN : IsArg (fun n => d n (ix2 b (I n))) N) (n : Fin 16) :
    win v4 d (ix2 b n) = IntOp.cmpi .eq (BitVec.ofNat 32 (col n (I n)).val) (BitVec.ofNat 32 (col N (I N)).val) := by
  have hm : ∀ n, cat16 (fun n => chM (d n)) (ix2 b n) = d n (ix2 b (I n)) := fun n => by
    rw [cat16_apply, chM_apply _ b (hI n)]
  have hj : ∀ n, cat16 (fun n => chI v4 (base n) (d n)) (ix2 b n) = BitVec.ofNat 32 (col n (I n)).val := fun n => by
    rw [cat16_apply, chI_apply _ n b (hI n)]
  unfold win
  generalize cat16 (fun n => chM (d n)) = m at hm ⊢
  generalize cat16 (fun n => chI v4 (base n) (d n)) = w at hj ⊢
  unfold k0_pay214
  pointwise
  simp only [hm, hj, ninf_eq]
  rw [Cert.Fps.fold_max_of_isArg hN]
  refine congrArg _ (Cert.Fps.fold_min_key hN (fun n => (col n (I n)).val) (fun n => (col n (I n)).isLt) (fun n hn => ?_))
  show 512 * N.val + (I N).val ≤ 512 * n.val + (I n).val
  rcases hn.lt_or_eq with hlt | rfl
  · have : N.val < n.val := hlt
    omega
  · exact le_rfl

/-- The coordinate picked is the coordinate of the first point furthest away. -/
theorem pick_apply (d : Fin 16 → FVec Ideal S16x512 .f32) (x : Vec Ideal S16x8192 .f32) (b : Fin 16) :
    pick v4 d x (ix2 b 0) = x (ix2 b (argLow (glue d b))) := by
  choose I hI using fun n => Cert.Fps.exists_isArg fun j : Fin 512 => d n (ix2 b j)
  obtain ⟨N, hN⟩ := Cert.Fps.exists_isArg fun n : Fin 16 => d n (ix2 b (I n))
  have harg : col N (I N) = argLow (glue d b) :=
    (Cert.Fps.isArg_chunks (d := glue d b) (I := I) (N := N) (by simpa only [glue_col] using hI) (by simpa only [glue_col] using hN)).eq_argLow
  have hw := win_apply d b hI hN
  have hc : ∀ n, cat16 (fun n => chC v4 (base n) (d n) (ck n x)) (ix2 b n) = x (ix2 b (col n (I n))) := fun n => by
    rw [cat16_apply, chC_apply _ _ n b (hI n), ck_apply]
  unfold pick
  generalize win v4 d = w at hw ⊢
  generalize cat16 (fun n => chC v4 (base n) (d n) (ck n x)) = c at hc ⊢
  unfold k0_pay218 k0_pay3
  pointwise
  simp only [hw, hc]
  rw [← harg]
  refine Cert.Fps.sum_one_hot N (fun n => (col n (I n)).val) (fun n => (col n (I n)).isLt) (fun n hn => ?_)
    fun n => x (ix2 b (col n (I n)))
  have h : 512 * n.val + (I n).val = 512 * N.val + (I N).val := hn
  exact Fin.ext (by omega)

/-! ## The recursion -/

/-- The points of cloud `b`. -/
def cloud (x y z : Vec Ideal S16x8192 .f32) (b : Fin 16) : Fin 8192 → Fin 3 → EReal := fun i =>
  ![x (ix2 b i), y (ix2 b i), z (ix2 b i)]

theorem row_apply (p : Fin 3 → FVec Ideal S16x1 .f32) (b : Fin 16) (c : Fin 3) :
    row (p 0) (p 1) (p 2) (ix2 0 ⟨16 * c.val + b.val, by omega⟩) = p c (ix2 b 0) := by
  unfold row
  fin_cases c
  all_goals
    pointwise
  rw [dif_neg (by omega), dif_neg (by omega)]
  exact congrArg (p 2) (congrArg (fun i => ix2 (n0 := 16) (n1 := 1) i 0) (Fin.ext (by show 32 + b.val - 16 - 16 = b.val; omega)))

theorem first_apply (X : Vec Ideal S16x8192 .f32) (b : Fin 16) :
    shapeCast S16x1 (View.ld X (Rect.unit (s := S16x8192) ![0, 0] S16x1.size inb_S16x8192_S16x1_0_0)) shapeCasts_S16x1_S16x1 (ix2 b 0)
      = X (ix2 b 0) := by
  pointwise

/-- Before trip `k` the kernel carries the coordinates of the `k`-th point of every cloud, has them in its row, and holds the
    distances to the points before it. -/
theorem it_spec (x y z : Vec Ideal S16x8192 .f32) (k : ℕ) :
    (∀ b : Fin 16, (it x y z k).1.1 (ix2 b 0) = x (ix2 b (far (cloud x y z b) k).2))
    ∧ (∀ b : Fin 16, (it x y z k).1.2.1 (ix2 b 0) = y (ix2 b (far (cloud x y z b) k).2))
    ∧ (∀ b : Fin 16, (it x y z k).1.2.2.1 (ix2 b 0) = z (ix2 b (far (cloud x y z b) k).2))
    ∧ (it x y z k).1.2.2.2 = row (it x y z k).1.1 (it x y z k).1.2.1 (it x y z k).1.2.2.1
    ∧ ∀ (b : Fin 16) (i : Fin 8192), (it x y z k).2 (ix2 b i) = (far (cloud x y z b) k).1 i := by
  induction k with
  | zero =>
    refine ⟨fun b => first_apply x b, fun b => first_apply y b, fun b => first_apply z b, rfl, fun b i => ?_⟩
    show k0_pay1 (F := Ideal) (ix2 b i) = (⊤ : EReal)
    unfold k0_pay1
    pointwise
    exact pinf_eq
  | succ k ih =>
    obtain ⟨hx, hy, hz, -, hd⟩ := ih
    have hD : ∀ (b : Fin 16) (i : Fin 8192), glue (nd x y z (it x y z k).2 (it x y z k).1) b i = (far (cloud x y z b) (k + 1)).1 i := by
      intro b i
      obtain ⟨n, j, rfl⟩ : ∃ n j, i = col n j := ⟨⟨i.val / 512, by omega⟩, ⟨i.val % 512, Nat.mod_lt _ (by decide)⟩,
        Fin.ext (by show i.val = 512 * (i.val / 512) + i.val % 512; omega)⟩
      rw [glue_col]
      unfold nd
      rw [chD_apply, ck_apply, ck_apply, ck_apply, ck_apply, hx, hy, hz, hd]
      show _ = min _ (Cert.Fps.dist _ _)
      unfold Cert.Fps.dist
      rw [Fin.sum_univ_three, add_right_comm]
      rfl
    have hg : ∀ b : Fin 16, argLow (glue (nd x y z (it x y z k).2 (it x y z k).1) b) = (far (cloud x y z b) (k + 1)).2 := fun b =>
      congrArg argLow (funext (hD b))
    refine ⟨fun b => ?_, fun b => ?_, fun b => ?_, rfl, fun b i => hD b i⟩
    · rw [← hg]; exact pick_apply _ x b
    · rw [← hg]; exact pick_apply _ y b
    · rw [← hg]; exact pick_apply _ z b

/-- Row `k` of the output holds the `k`-th point of every cloud: first the first coordinates of the sixteen clouds, then the
    second, then the third. -/
theorem OUT_apply (x y z : Vec Ideal S16x8192 .f32) (k : Fin 1024) (b : Fin 16) (c : Fin 3) :
    OUT x y z (ix2 k ⟨16 * c.val + b.val, by omega⟩) = cloud x y z b (far (cloud x y z b) k.val).2 c := by
  obtain ⟨hx, hy, hz, hr, -⟩ := it_spec x y z k.val
  unfold OUT
  refine (congrFun hr _).trans ((row_apply ![(it x y z k.val).1.1, (it x y z k.val).1.2.1, (it x y z k.val).1.2.2.1] b c).trans ?_)
  fin_cases c
  · exact hx b
  · exact hy b
  · exact hz b

end Cert.KernelIdeal.Fps

end
-- ==== Proof.KResult.lean ====
/- The kernel's result at the ideal values: the points that furthest point sampling chooses. -/
module

public import proofs.«01_k».proof.Proof.KRun
public import proofs.«01_k».proof.Proof.KValue

@[expose] public section

set_option maxRecDepth 16384

noncomputable section

namespace Cert.KernelIdeal.Fps

open Cert.KernelIdeal Cert.KernelIdeal.Gen
open Idealize.ShloMosaic Idealize.ShloMosaic.TcCoe Idealize.ShloMosaic.Tactic
open Idealize.SL.Sem
open Cert.Fps (far pts centres)

theorem coordOf_x (a : Vec Ideal S16x8192x3 .f32) (b : Fin 16) (i : Fin 8192) :
    coordOf ![0, 0, 0] slices_S16x8192x3_S16x8192x1_0_0_0 a (ix2 b i) = pts a b i 0 := by
  unfold coordOf
  pointwise
  rfl

theorem coordOf_y (a : Vec Ideal S16x8192x3 .f32) (b : Fin 16) (i : Fin 8192) :
    coordOf ![0, 0, 1] slices_S16x8192x3_S16x8192x1_0_0_1 a (ix2 b i) = pts a b i 1 := by
  unfold coordOf
  pointwise
  rfl

theorem coordOf_z (a : Vec Ideal S16x8192x3 .f32) (b : Fin 16) (i : Fin 8192) :
    coordOf ![0, 0, 2] slices_S16x8192x3_S16x8192x1_0_0_2 a (ix2 b i) = pts a b i 2 := by
  unfold coordOf
  pointwise
  rfl

/-- The kernel's three arrays hold the clouds of the argument. -/
theorem cloud_eq (a : Vec Ideal S16x8192x3 .f32) (b : Fin 16) :
    cloud (coordOf ![0, 0, 0] slices_S16x8192x3_S16x8192x1_0_0_0 a) (coordOf ![0, 0, 1] slices_S16x8192x3_S16x8192x1_0_0_1 a)
      (coordOf ![0, 0, 2] slices_S16x8192x3_S16x8192x1_0_0_2 a) b = pts a b := by
  funext i c
  unfold cloud
  fin_cases c
  · exact coordOf_x a b i
  · exact coordOf_y a b i
  · exact coordOf_z a b i

theorem tail_apply (o : Vec Ideal S1024x48 .f32) (b : Fin 16) (k : Fin 1024) (c : Fin 3) :
    tail o (ix3 b k c) = o (ix2 k ⟨16 * c.val + b.val, by omega⟩) := by
  unfold tail part
  fin_cases c
  all_goals
    pointwise

/-- The result is the points chosen. -/
theorem tail_eq (a : Vec Ideal S16x8192x3 .f32) :
    tail (OUT (coordOf ![0, 0, 0] slices_S16x8192x3_S16x8192x1_0_0_0 a) (coordOf ![0, 0, 1] slices_S16x8192x3_S16x8192x1_0_0_1 a)
      (coordOf ![0, 0, 2] slices_S16x8192x3_S16x8192x1_0_0_2 a)) = centres a := by
  funext i
  obtain ⟨b, k, c, rfl⟩ : ∃ (b : Fin 16) (k : Fin 1024) (c : Fin 3), i = ix3 b k c :=
    ⟨i 0, i 1, i 2, eq_ix3 (n0 := 16) (n1 := 1024) (n2 := 3) i⟩
  rw [tail_apply, OUT_apply, cloud_eq]
  rfl

/-- The kernel's run ends with the points chosen from the argument. -/
theorem run_centres (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = centres (m ((c : Thread nD τ).loc main_arg0))
      ∧ r.2.mem ((c : Thread nD τ).loc main_arg0) = m ((c : Thread nD τ).loc main_arg0) :=
  (θ_run defs _ _).mono (fun r h c => ⟨by rw [(h c).1, V_x, V_y, V_z, tail_eq], (h c).2⟩) (run m ρ)

end Cert.KernelIdeal.Fps

end
-- ==== Proof.RefRun.lean ====
/- The reference program's run. @main is a stretch of host operations, one counted loop of 1024 trips and two stretches
   after it. First the stretches and what each writes; then one trip's values from any contents; then the run: the result
   is `out_main_v6` of `STEP` applied 1024 times to the contents at the loop's entry. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Ops

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main and the loop body as stretches of operations -/

/-- 12 host operations of @main, in order. -/
abbrev hostOps0 : List (HloOp τ sig (Elt F)) :=
  [ StableHlo.nullary main_cst (constant S_ .f32 0x7F800000#32),
    StableHlo.unary main_cst main_v0 (broadcastInDim S16x8192 ![] bcast_S_S16x8192 : (⟨S_, .f32⟩ : BufTy).Contents (Elt F) → (⟨S16x8192, .f32⟩ : BufTy).Contents (Elt F)),
    StableHlo.nullary main_c (constantI S_ 32 0#32),
    StableHlo.unary main_c main_v1 (broadcastInDim S16 ![] bcast_S_S16 : (⟨S_, .i32⟩ : BufTy).Contents (Elt F) → (⟨S16, .i32⟩ : BufTy).Contents (Elt F)),
    StableHlo.nullary main_c_0 (constantI S_ 32 0#32),
    StableHlo.unary main_c_0 main_v2 (broadcastInDim S1024x16 ![] bcast_S_S1024x16 : (⟨S_, .i32⟩ : BufTy).Contents (Elt F) → (⟨S1024x16, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 2 host operations of @main, in order. -/
abbrev hostOps0_1 : List (HloOp τ sig (Elt F)) :=
  [ StableHlo.unary main_v3_4 main_v4 ((transpose S16x1024 [1, 0] · transposes_S1024x16_S16x1024_1_0) : (⟨S1024x16, .i32⟩ : BufTy).Contents (Elt F) → (⟨S16x1024, .i32⟩ : BufTy).Contents (Elt F)),
    StableHlo.unary main_v4 main_v5 (broadcastInDim S16x1024x1 ![0, 1] bcast_S16x1024_S16x1024x1_0_1 : (⟨S16x1024, .i32⟩ : BufTy).Contents (Elt F) → (⟨S16x1024x1, .i32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub ..⟩
/-- 22 host operations of @take_along_axis_0 (main_call3), in order. -/
abbrev hostOps0_2 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16x1024x1, .i32⟩) (broadcastInDim S16x1024x1 ![] bcast_S_S16x1024x1),
    StableHlo.TRef.binary (.of main_v5 : StableHlo.TRef sig ⟨S16x1024x1, .i32⟩) (.of main_call3_v0 : StableHlo.TRef sig ⟨S16x1024x1, .i32⟩) (.of main_call3_v1 : StableHlo.TRef sig ⟨S16x1024x1, .i1⟩) (cmpi .slt),
    StableHlo.TRef.nullary (.of main_call3_c_0 : StableHlo.TRef sig ⟨S_, .i32⟩) (constantI S_ 32 8192#32),
    StableHlo.TRef.unary (.of main_call3_c_0 : StableHlo.TRef sig ⟨S_, .i32⟩) (.of main_call3_v2 : StableHlo.TRef sig ⟨S16x1024x1, .i32⟩) (broadcastInDim S16x1024x1 ![] bcast_S_S16x1024x1),
    StableHlo.TRef.binary (.of main_v5 : StableHlo.TRef sig ⟨S16x1024x1, .i32⟩) (.of main_call3_v2 : StableHlo.TRef sig ⟨S16x1024x1, .i32⟩) (.of main_call3_v3 : StableHlo.TRef sig ⟨S16x1024x1, .i32⟩) addi,
    StableHlo.TRef.ternary (.of main_call3_v1 : StableHlo.TRef sig ⟨S16x1024x1, .i1⟩) (.of main_call3_v3 : StableHlo.TRef sig ⟨S16x1024x1, .i32⟩) (.of main_v5 : StableHlo.TRef sig ⟨S16x1024x1, .i32⟩) (.of main_call3_v4 : StableHlo.TRef sig ⟨S16x1024x1, .i32⟩) select,
    StableHlo.TRef.nullary (.of main_call3_c_1 : StableHlo.TRef sig ⟨S1, .i32⟩) (constantI S1 32 8191#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S16x1024x1, .i32⟩) (broadcastInDim S16x1024x1 ![] bcast_S_S16x1024x1),
    StableHlo.TRef.binary (.of main_call3_v4 : StableHlo.TRef sig ⟨S16x1024x1, .i32⟩) (.of main_call3_v5 : StableHlo.TRef sig ⟨S16x1024x1, .i32⟩) (.of main_call3_v6 : StableHlo.TRef sig ⟨S16x1024x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S16x1024x1, .i32⟩) (broadcastInDim S16x1024x1 ![0, 1, 2] bcast_S1x1x1_S16x1024x1_0_1_2),
    StableHlo.TRef.binary (.of main_call3_v4 : StableHlo.TRef sig ⟨S16x1024x1, .i32⟩) (.of main_call3_v8 : StableHlo.TRef sig ⟨S16x1024x1, .i32⟩) (.of main_call3_v9 : StableHlo.TRef sig ⟨S16x1024x1, .i1⟩) (cmpi .sle),
    StableHlo.TRef.binary (.of main_call3_v6 : StableHlo.TRef sig ⟨S16x1024x1, .i1⟩) (.of main_call3_v9 : StableHlo.TRef sig ⟨S16x1024x1, .i1⟩) (.of main_call3_v10 : StableHlo.TRef sig ⟨S16x1024x1, .i1⟩) andi,
    StableHlo.TRef.nullary (.of main_call3_c_3 : StableHlo.TRef sig ⟨S_, .i1⟩) (constantI S_ 1 1#1),
    StableHlo.TRef.binary (.of main_call3_v10 : StableHlo.TRef sig ⟨S16x1024x1, .i1⟩) (.of main_call3_c_3 : StableHlo.TRef sig ⟨S_, .i1⟩) (.of main_call3_v11 : StableHlo.TRef sig ⟨S16x1024, .i1⟩) (fun x v => Host.reduce IntOp.andi x v reducesTo_S16x1024x1_S16x1024_d2 h_S_),
    StableHlo.TRef.binary (.of main_arg0 : StableHlo.TRef sig ⟨S16x8192x3, .f32⟩) (.of main_call3_v4 : StableHlo.TRef sig ⟨S16x1024x1, .i32⟩) (.of main_call3_v12 : StableHlo.TRef sig ⟨S16x1024x3, .f32⟩) (fun x i => Host.gather gather_S16x8192x3_S16x1024x1_S16x1024x3_2_1_0_0_1_2_113 x i),
    StableHlo.TRef.unary (.of main_call3_v11 : StableHlo.TRef sig ⟨S16x1024, .i1⟩) (.of main_call3_v13 : StableHlo.TRef sig ⟨S16x1024x3, .i1⟩) (broadcastInDim S16x1024x3 ![0, 1] bcast_S16x1024_S16x1024x3_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S16x1024x3, .f32⟩) (broadcastInDim S16x1024x3 ![] bcast_S_S16x1024x3),
    StableHlo.TRef.ternary (.of main_call3_v13 : StableHlo.TRef sig ⟨S16x1024x3, .i1⟩) (.of main_call3_v12 : StableHlo.TRef sig ⟨S16x1024x3, .f32⟩) (.of main_call3_v14 : StableHlo.TRef sig ⟨S16x1024x3, .f32⟩) (.of main_v6 : StableHlo.TRef sig ⟨S16x1024x3, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- `main` is its stretches in order, with the loop between the first and the rest. -/
theorem main_chain (c : Dev nD) : main (F := F) c = (Pipeline.chain
  [ StableHlo.seq hostOps0,
    HostLoop.enter 0,
    StableHlo.seq hostOps0_1,
    StableHlo.seq hostOps0_2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons]
  chain_rfl

/-- 1 host operation of host loop 0's body region, in order. -/
abbrev while0Ops0 : List (HloOp τ sig (Elt F)) :=
  [ StableHlo.unary main_v3_3 main_while0b_v7 (broadcastInDim S16x1x1 ![0] bcast_S16_S16x1x1_0 : (⟨S16, .i32⟩ : BufTy).Contents (Elt F) → (⟨S16x1x1, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  StableHlo.unary_bufs_sub ..
/-- 22 host operations of @take_along_axis (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S16x1x1, .i32⟩) (broadcastInDim S16x1x1 ![] bcast_S_S16x1x1),
    StableHlo.TRef.binary (.of main_while0b_v7 : StableHlo.TRef sig ⟨S16x1x1, .i32⟩) (.of main_while0b_call0_v0 : StableHlo.TRef sig ⟨S16x1x1, .i32⟩) (.of main_while0b_call0_v1 : StableHlo.TRef sig ⟨S16x1x1, .i1⟩) (cmpi .slt),
    StableHlo.TRef.nullary (.of main_while0b_call0_c_0 : StableHlo.TRef sig ⟨S_, .i32⟩) (constantI S_ 32 8192#32),
    StableHlo.TRef.unary (.of main_while0b_call0_c_0 : StableHlo.TRef sig ⟨S_, .i32⟩) (.of main_while0b_call0_v2 : StableHlo.TRef sig ⟨S16x1x1, .i32⟩) (broadcastInDim S16x1x1 ![] bcast_S_S16x1x1),
    StableHlo.TRef.binary (.of main_while0b_v7 : StableHlo.TRef sig ⟨S16x1x1, .i32⟩) (.of main_while0b_call0_v2 : StableHlo.TRef sig ⟨S16x1x1, .i32⟩) (.of main_while0b_call0_v3 : StableHlo.TRef sig ⟨S16x1x1, .i32⟩) addi,
    StableHlo.TRef.ternary (.of main_while0b_call0_v1 : StableHlo.TRef sig ⟨S16x1x1, .i1⟩) (.of main_while0b_call0_v3 : StableHlo.TRef sig ⟨S16x1x1, .i32⟩) (.of main_while0b_v7 : StableHlo.TRef sig ⟨S16x1x1, .i32⟩) (.of main_while0b_call0_v4 : StableHlo.TRef sig ⟨S16x1x1, .i32⟩) select,
    StableHlo.TRef.nullary (.of main_while0b_call0_c_1 : StableHlo.TRef sig ⟨S1, .i32⟩) (constantI S1 32 8191#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S16x1x1, .i32⟩) (broadcastInDim S16x1x1 ![] bcast_S_S16x1x1),
    StableHlo.TRef.binary (.of main_while0b_call0_v4 : StableHlo.TRef sig ⟨S16x1x1, .i32⟩) (.of main_while0b_call0_v5 : StableHlo.TRef sig ⟨S16x1x1, .i32⟩) (.of main_while0b_call0_v6 : StableHlo.TRef sig ⟨S16x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S16x1x1, .i32⟩) (broadcastInDim S16x1x1 ![0, 1, 2] bcast_S1x1x1_S16x1x1_0_1_2),
    StableHlo.TRef.binary (.of main_while0b_call0_v4 : StableHlo.TRef sig ⟨S16x1x1, .i32⟩) (.of main_while0b_call0_v8 : StableHlo.TRef sig ⟨S16x1x1, .i32⟩) (.of main_while0b_call0_v9 : StableHlo.TRef sig ⟨S16x1x1, .i1⟩) (cmpi .sle),
    StableHlo.TRef.binary (.of main_while0b_call0_v6 : StableHlo.TRef sig ⟨S16x1x1, .i1⟩) (.of main_while0b_call0_v9 : StableHlo.TRef sig ⟨S16x1x1, .i1⟩) (.of main_while0b_call0_v10 : StableHlo.TRef sig ⟨S16x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S16x1x1, .i1⟩) (.of main_while0b_call0_c_3 : StableHlo.TRef sig ⟨S_, .i1⟩) (.of main_while0b_call0_v11 : StableHlo.TRef sig ⟨S16x1, .i1⟩) (fun x v => Host.reduce IntOp.andi x v reducesTo_S16x1x1_S16x1_d2 h_S_),
    StableHlo.TRef.binary (.of main_v3_0 : StableHlo.TRef sig ⟨S16x8192x3, .f32⟩) (.of main_while0b_call0_v4 : StableHlo.TRef sig ⟨S16x1x1, .i32⟩) (.of main_while0b_call0_v12 : StableHlo.TRef sig ⟨S16x1x3, .f32⟩) (fun x i => Host.gather gather_S16x8192x3_S16x1x1_S16x1x3_2_1_0_0_1_2_113 x i),
    StableHlo.TRef.unary (.of main_while0b_call0_v11 : StableHlo.TRef sig ⟨S16x1, .i1⟩) (.of main_while0b_call0_v13 : StableHlo.TRef sig ⟨S16x1x3, .i1⟩) (broadcastInDim S16x1x3 ![0, 1] bcast_S16x1_S16x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S16x1x3, .f32⟩) (broadcastInDim S16x1x3 ![] bcast_S_S16x1x3),
    StableHlo.TRef.ternary (.of main_while0b_call0_v13 : StableHlo.TRef sig ⟨S16x1x3, .i1⟩) (.of main_while0b_call0_v12 : StableHlo.TRef sig ⟨S16x1x3, .f32⟩) (.of main_while0b_call0_v14 : StableHlo.TRef sig ⟨S16x1x3, .f32⟩) (.of main_while0b_v8 : StableHlo.TRef sig ⟨S16x1x3, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 9 host operations of host loop 0's body region, in order. -/
abbrev while0Ops0_2 : List (HloOp τ sig (Elt F)) :=
  [ StableHlo.unary main_while0b_v8 main_while0b_v9 (broadcastInDim S16x8192x3 ![0, 1, 2] bcast_S16x1x3_S16x8192x3_0_1_2 : (⟨S16x1x3, .f32⟩ : BufTy).Contents (Elt F) → (⟨S16x8192x3, .f32⟩ : BufTy).Contents (Elt F)),
    StableHlo.binary main_v3_0 main_while0b_v9 main_while0b_v10 (subf : (⟨S16x8192x3, .f32⟩ : BufTy).Contents (Elt F) → (⟨S16x8192x3, .f32⟩ : BufTy).Contents (Elt F) → (⟨S16x8192x3, .f32⟩ : BufTy).Contents (Elt F)),
    StableHlo.binary main_while0b_v10 main_while0b_v10 main_while0b_v11 (mulf : (⟨S16x8192x3, .f32⟩ : BufTy).Contents (Elt F) → (⟨S16x8192x3, .f32⟩ : BufTy).Contents (Elt F) → (⟨S16x8192x3, .f32⟩ : BufTy).Contents (Elt F)),
    StableHlo.nullary main_while0b_cst_6 (constant S_ .f32 0x00000000#32),
    StableHlo.binary main_while0b_v11 main_while0b_cst_6 main_while0b_v12 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    StableHlo.binary main_v3_2 main_while0b_v12 main_while0b_v13 (minimumf : (⟨S16x8192, .f32⟩ : BufTy).Contents (Elt F) → (⟨S16x8192, .f32⟩ : BufTy).Contents (Elt F) → (⟨S16x8192, .f32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- 5 host operations of @argmax (main_while0b_call1), in order. -/
abbrev while0OpsA : List (HloOp τ sig (Elt F)) :=
  [ StableHlo.TRef.nullary (.of main_while0b_call1_v0 : StableHlo.TRef sig ⟨S16x8192, .i32⟩) (iotaInDim S16x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v13 : StableHlo.TRef sig ⟨S16x8192, .f32⟩) (.of main_while0b_call1_v0 : StableHlo.TRef sig ⟨S16x8192, .i32⟩) (.of main_while0b_call1_cst : StableHlo.TRef sig ⟨S_, .f32⟩) (.of main_while0b_call1_c : StableHlo.TRef sig ⟨S_, .i32⟩) (.of main_while0b_call1_v1_0 : StableHlo.TRef sig ⟨S16, .f32⟩) (fun x y u v j => (Host.argReduce reducer_argmax_f32_i32 x y u v reducesTo_S16x8192_S16_d1 h_S_ j).1),
    StableHlo.TRef.quaternary (.of main_while0b_v13 : StableHlo.TRef sig ⟨S16x8192, .f32⟩) (.of main_while0b_call1_v0 : StableHlo.TRef sig ⟨S16x8192, .i32⟩) (.of main_while0b_call1_cst : StableHlo.TRef sig ⟨S_, .f32⟩) (.of main_while0b_call1_c : StableHlo.TRef sig ⟨S_, .i32⟩) (.of main_while0b_v14 : StableHlo.TRef sig ⟨S16, .i32⟩) (fun x y u v j => (Host.argReduce reducer_argmax_f32_i32 x y u v reducesTo_S16x8192_S16_d1 h_S_ j).2) ]
/-- Each touches TensorCore references only. -/
theorem while0OpsA_sub : (while0OpsA : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 3 host operations of @dynamic_update_index_in_dim (main_while0b_call2), in order. -/
abbrev while0Ops0_3 : List (HloOp τ sig (Elt F)) :=
  [ StableHlo.TRef.unary (.of main_v3_3 : StableHlo.TRef sig ⟨S16, .i32⟩) (.of main_while0b_call2_v0 : StableHlo.TRef sig ⟨S1x16, .i32⟩) (broadcastInDim S1x16 ![1] bcast_S16_S1x16_1),
    StableHlo.TRef.nullary (.of main_while0b_call2_c : StableHlo.TRef sig ⟨S_, .i32⟩) (constantI S_ 32 0#32),
    StableHlo.TRef.binaryIndexed (.of main_v3_4 : StableHlo.TRef sig ⟨S1024x16, .i32⟩) (.of main_while0b_call2_v0 : StableHlo.TRef sig ⟨S1x16, .i32⟩) ![(.of main_v3_1 : StableHlo.TRef sig ⟨S_, .i32⟩), (.of main_while0b_call2_c : StableHlo.TRef sig ⟨S_, .i32⟩)] (.of main_while0b_v15 : StableHlo.TRef sig ⟨S1024x16, .i32⟩) (fun x u i => Host.dynamicUpdateSlice x u (fun k => (i k (Shape.Idx.first h_S_)).toInt) updateFits_S1024x16_S1x16) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_4 : List (HloOp τ sig (Elt F)) :=
  [ StableHlo.nullary main_while0b_c_7 (constantI S_ 32 1#32),
    StableHlo.binary main_v3_1 main_while0b_c_7 main_while0b_v16 (addi : (⟨S_, .i32⟩ : BufTy).Contents (Elt F) → (⟨S_, .i32⟩ : BufTy).Contents (Elt F) → (⟨S_, .i32⟩ : BufTy).Contents (Elt F)),
    StableHlo.unary main_while0b_v16 main_v3_1 id,
    StableHlo.unary main_while0b_v13 main_v3_2 id,
    StableHlo.unary main_while0b_v14 main_v3_3 id,
    StableHlo.unary main_while0b_v15 main_v3_4 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- One trip's body is its stretches in order. -/
theorem while0_body_chain : main_while0_body (F := F) = (Pipeline.chain
  [ StableHlo.seq while0Ops0,
    StableHlo.seq while0Ops0_1,
    StableHlo.seq while0Ops0_2,
    StableHlo.seq while0OpsA,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons]
  chain_rfl

end Cert.ReferenceIdeal.Ops

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_c, main_v1, main_c_0, main_v2, main_c_1, main_v3_0, main_v3_1, main_v3_2, main_v3_3, main_v3_4]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_v7]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v8]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v9, main_while0b_v10, main_while0b_v11, main_while0b_cst_6, main_while0b_v12, main_while0b_v13]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0OpsA` allocates a buffer. -/
theorem while0OpsA_fresh : (while0OpsA : List (HloOp τ sig (Elt F))).Forall fun op => op.fresh = ∅ :=
  StableHlo.forall_fresh_of_map rfl
/-- The reference each operation of `while0OpsA` writes, in order. -/
abbrev while0OpsA_W : List (Ref sig .tc) := [main_while0b_call1_v0, main_while0b_call1_cst, main_while0b_call1_c, main_while0b_call1_v1_0, main_while0b_v14]
theorem while0OpsA_writes : (while0OpsA : List (HloOp τ sig (Elt F))).Forall fun op => op.writes ⊆ (while0OpsA_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_v0, main_while0b_call2_c, main_while0b_v15]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_7, main_while0b_v16, main_v3_1, main_v3_2, main_v3_3, main_v3_4]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_1` writes, in order. -/
abbrev hostOps0_1_W : List (Ref sig .tc) := [main_v4, main_v5]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v6]
theorem hostOps0_2_writes : (hostOps0_2 : List (HloOp τ sig (Elt F))).Forall fun op => op.writes ⊆ (hostOps0_2_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_6 (constantI S_ 32 1024#32),
    StableHlo.binary main_v3_1 main_while0c_c_6 main_while0c_v7 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0OpsA, while0Ops0_3, while0Ops0_4]
abbrev postI : List (List (HloOp τ sig (Elt F))) := [hostOps0_1, hostOps0_2]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0OpsA_sub (hf := List.forall_iff_forall_mem.mp while0OpsA_fresh) (.cons while0Ops0_3_sub (hf := List.forall_iff_forall_mem.mp while0Ops0_3_fresh) (.cons while0Ops0_4_sub (hf := List.forall_iff_forall_mem.mp while0Ops0_4_fresh) (.nil))))))
theorem hpost : Plain (postI (F := F)) := .cons hostOps0_1_sub (hf := List.forall_iff_forall_mem.mp hostOps0_1_fresh) (.cons hostOps0_2_sub (hf := List.forall_iff_forall_mem.mp hostOps0_2_fresh) (.nil))

/-- The reference each operation of `condOps` writes, in order. -/
abbrev condOps_W : List (Ref sig .tc) := [main_while0c_c_6, main_while0c_v7]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v3_1`) is written by one stretch of the body, `while0Ops0_4`: not by the condition, nor by the
    body's other stretches. -/
theorem ctr_cond (V : Valuation τ sig (Elt F)) : after condOps V (Proc.devRef .tc main_v3_1) = V (Proc.devRef .tc main_v3_1) :=
  after_of_writes_sub condOps V condOps_writes (by decide +kernel)
theorem ctr_while0Ops0 (V : Valuation τ sig (Elt F)) : after while0Ops0 V (Proc.devRef .tc main_v3_1) = V (Proc.devRef .tc main_v3_1) :=
  after_of_writes_sub while0Ops0 V while0Ops0_writes (by decide +kernel)
theorem ctr_while0Ops0_1 (V : Valuation τ sig (Elt F)) : after while0Ops0_1 V (Proc.devRef .tc main_v3_1) = V (Proc.devRef .tc main_v3_1) :=
  after_of_writes_sub while0Ops0_1 V while0Ops0_1_writes (by decide +kernel)
theorem ctr_while0Ops0_2 (V : Valuation τ sig (Elt F)) : after while0Ops0_2 V (Proc.devRef .tc main_v3_1) = V (Proc.devRef .tc main_v3_1) :=
  after_of_writes_sub while0Ops0_2 V while0Ops0_2_writes (by decide +kernel)
theorem ctr_while0OpsA (V : Valuation τ sig (Elt F)) : after while0OpsA V (Proc.devRef .tc main_v3_1) = V (Proc.devRef .tc main_v3_1) :=
  after_of_writes_sub while0OpsA V while0OpsA_writes (by decide +kernel)
theorem ctr_while0Ops0_3 (V : Valuation τ sig (Elt F)) : after while0Ops0_3 V (Proc.devRef .tc main_v3_1) = V (Proc.devRef .tc main_v3_1) :=
  after_of_writes_sub while0Ops0_3 V while0Ops0_3_writes (by decide +kernel)

set_option maxRecDepth 100000 in
/-- `while0Ops0_4` leaves the counter one step on. -/
theorem ctr_step (X : Valuation τ sig (Elt F)) :
    after while0Ops0_4 X (Proc.devRef .tc main_v3_1) = addi (X (Proc.devRef .tc main_v3_1)) (constantI S_ 32 1#32) := by
  after_results
  rfl

/-- The counter is the loop's lower bound at the loop's entry: its last writer before the loop read back. -/
theorem ctr_entry (c : Dev nD) : entryContents preI m c (Proc.devRef .tc main_v3_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0OpsA, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_6 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1024 m ρ (cond_spec m)

/-! ## One trip's values -/

/-- The body's operations 1 … 1 of 41. -/
abbrev trip_w0 : List (HloOp τ sig (Elt F)) :=
  [ StableHlo.unary main_v3_3 main_while0b_v7 (broadcastInDim S16x1x1 ![0] bcast_S16_S16x1x1_0 : (⟨S16, .i32⟩ : BufTy).Contents (Elt F) → (⟨S16x1x1, .i32⟩ : BufTy).Contents (Elt F)) ]

/-- The body's operations 2 … 23 of 41. -/
abbrev trip_w1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S16x1x1, .i32⟩) (broadcastInDim S16x1x1 ![] bcast_S_S16x1x1),
    StableHlo.TRef.binary (.of main_while0b_v7 : StableHlo.TRef sig ⟨S16x1x1, .i32⟩) (.of main_while0b_call0_v0 : StableHlo.TRef sig ⟨S16x1x1, .i32⟩) (.of main_while0b_call0_v1 : StableHlo.TRef sig ⟨S16x1x1, .i1⟩) (cmpi .slt),
    StableHlo.TRef.nullary (.of main_while0b_call0_c_0 : StableHlo.TRef sig ⟨S_, .i32⟩) (constantI S_ 32 8192#32),
    StableHlo.TRef.unary (.of main_while0b_call0_c_0 : StableHlo.TRef sig ⟨S_, .i32⟩) (.of main_while0b_call0_v2 : StableHlo.TRef sig ⟨S16x1x1, .i32⟩) (broadcastInDim S16x1x1 ![] bcast_S_S16x1x1),
    StableHlo.TRef.binary (.of main_while0b_v7 : StableHlo.TRef sig ⟨S16x1x1, .i32⟩) (.of main_while0b_call0_v2 : StableHlo.TRef sig ⟨S16x1x1, .i32⟩) (.of main_while0b_call0_v3 : StableHlo.TRef sig ⟨S16x1x1, .i32⟩) addi,
    StableHlo.TRef.ternary (.of main_while0b_call0_v1 : StableHlo.TRef sig ⟨S16x1x1, .i1⟩) (.of main_while0b_call0_v3 : StableHlo.TRef sig ⟨S16x1x1, .i32⟩) (.of main_while0b_v7 : StableHlo.TRef sig ⟨S16x1x1, .i32⟩) (.of main_while0b_call0_v4 : StableHlo.TRef sig ⟨S16x1x1, .i32⟩) select,
    StableHlo.TRef.nullary (.of main_while0b_call0_c_1 : StableHlo.TRef sig ⟨S1, .i32⟩) (constantI S1 32 8191#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S16x1x1, .i32⟩) (broadcastInDim S16x1x1 ![] bcast_S_S16x1x1),
    StableHlo.TRef.binary (.of main_while0b_call0_v4 : StableHlo.TRef sig ⟨S16x1x1, .i32⟩) (.of main_while0b_call0_v5 : StableHlo.TRef sig ⟨S16x1x1, .i32⟩) (.of main_while0b_call0_v6 : StableHlo.TRef sig ⟨S16x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S16x1x1, .i32⟩) (broadcastInDim S16x1x1 ![0, 1, 2] bcast_S1x1x1_S16x1x1_0_1_2),
    StableHlo.TRef.binary (.of main_while0b_call0_v4 : StableHlo.TRef sig ⟨S16x1x1, .i32⟩) (.of main_while0b_call0_v8 : StableHlo.TRef sig ⟨S16x1x1, .i32⟩) (.of main_while0b_call0_v9 : StableHlo.TRef sig ⟨S16x1x1, .i1⟩) (cmpi .sle),
    StableHlo.TRef.binary (.of main_while0b_call0_v6 : StableHlo.TRef sig ⟨S16x1x1, .i1⟩) (.of main_while0b_call0_v9 : StableHlo.TRef sig ⟨S16x1x1, .i1⟩) (.of main_while0b_call0_v10 : StableHlo.TRef sig ⟨S16x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S16x1x1, .i1⟩) (.of main_while0b_call0_c_3 : StableHlo.TRef sig ⟨S_, .i1⟩) (.of main_while0b_call0_v11 : StableHlo.TRef sig ⟨S16x1, .i1⟩) (fun x v => Host.reduce IntOp.andi x v reducesTo_S16x1x1_S16x1_d2 h_S_),
    StableHlo.TRef.binary (.of main_v3_0 : StableHlo.TRef sig ⟨S16x8192x3, .f32⟩) (.of main_while0b_call0_v4 : StableHlo.TRef sig ⟨S16x1x1, .i32⟩) (.of main_while0b_call0_v12 : StableHlo.TRef sig ⟨S16x1x3, .f32⟩) (fun x i => Host.gather gather_S16x8192x3_S16x1x1_S16x1x3_2_1_0_0_1_2_113 x i),
    StableHlo.TRef.unary (.of main_while0b_call0_v11 : StableHlo.TRef sig ⟨S16x1, .i1⟩) (.of main_while0b_call0_v13 : StableHlo.TRef sig ⟨S16x1x3, .i1⟩) (broadcastInDim S16x1x3 ![0, 1] bcast_S16x1_S16x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S16x1x3, .f32⟩) (broadcastInDim S16x1x3 ![] bcast_S_S16x1x3),
    StableHlo.TRef.ternary (.of main_while0b_call0_v13 : StableHlo.TRef sig ⟨S16x1x3, .i1⟩) (.of main_while0b_call0_v12 : StableHlo.TRef sig ⟨S16x1x3, .f32⟩) (.of main_while0b_call0_v14 : StableHlo.TRef sig ⟨S16x1x3, .f32⟩) (.of main_while0b_v8 : StableHlo.TRef sig ⟨S16x1x3, .f32⟩) select ]

/-- The body's operations 24 … 32 of 41. -/
abbrev trip_w2 : List (HloOp τ sig (Elt F)) :=
  [ StableHlo.unary main_while0b_v8 main_while0b_v9 (broadcastInDim S16x8192x3 ![0, 1, 2] bcast_S16x1x3_S16x8192x3_0_1_2 : (⟨S16x1x3, .f32⟩ : BufTy).Contents (Elt F) → (⟨S16x8192x3, .f32⟩ : BufTy).Contents (Elt F)),
    StableHlo.binary main_v3_0 main_while0b_v9 main_while0b_v10 (subf : (⟨S16x8192x3, .f32⟩ : BufTy).Contents (Elt F) → (⟨S16x8192x3, .f32⟩ : BufTy).Contents (Elt F) → (⟨S16x8192x3, .f32⟩ : BufTy).Contents (Elt F)),
    StableHlo.binary main_while0b_v10 main_while0b_v10 main_while0b_v11 (mulf : (⟨S16x8192x3, .f32⟩ : BufTy).Contents (Elt F) → (⟨S16x8192x3, .f32⟩ : BufTy).Contents (Elt F) → (⟨S16x8192x3, .f32⟩ : BufTy).Contents (Elt F)),
    StableHlo.nullary main_while0b_cst_6 (constant S_ .f32 0x00000000#32),
    StableHlo.binary main_while0b_v11 main_while0b_cst_6 main_while0b_v12 ((fun x v => Host.reduceAdd x v reducesTo_S16x8192x3_S16x8192_d2 h_S_) : (⟨S16x8192x3, .f32⟩ : BufTy).Contents (Elt F) → (⟨S_, .f32⟩ : BufTy).Contents (Elt F) → (⟨S16x8192, .f32⟩ : BufTy).Contents (Elt F)),
    StableHlo.binary main_v3_2 main_while0b_v12 main_while0b_v13 (minimumf : (⟨S16x8192, .f32⟩ : BufTy).Contents (Elt F) → (⟨S16x8192, .f32⟩ : BufTy).Contents (Elt F) → (⟨S16x8192, .f32⟩ : BufTy).Contents (Elt F)) ]

/-- The operations of the body's @argmax. -/
abbrev trip_wA : List (HloOp τ sig (Elt F)) :=
  [ StableHlo.TRef.nullary (.of main_while0b_call1_v0 : StableHlo.TRef sig ⟨S16x8192, .i32⟩) (iotaInDim S16x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v13 : StableHlo.TRef sig ⟨S16x8192, .f32⟩) (.of main_while0b_call1_v0 : StableHlo.TRef sig ⟨S16x8192, .i32⟩) (.of main_while0b_call1_cst : StableHlo.TRef sig ⟨S_, .f32⟩) (.of main_while0b_call1_c : StableHlo.TRef sig ⟨S_, .i32⟩) (.of main_while0b_call1_v1_0 : StableHlo.TRef sig ⟨S16, .f32⟩) (fun x y u v j => (Host.argReduce reducer_argmax_f32_i32 x y u v reducesTo_S16x8192_S16_d1 h_S_ j).1),
    StableHlo.TRef.quaternary (.of main_while0b_v13 : StableHlo.TRef sig ⟨S16x8192, .f32⟩) (.of main_while0b_call1_v0 : StableHlo.TRef sig ⟨S16x8192, .i32⟩) (.of main_while0b_call1_cst : StableHlo.TRef sig ⟨S_, .f32⟩) (.of main_while0b_call1_c : StableHlo.TRef sig ⟨S_, .i32⟩) (.of main_while0b_v14 : StableHlo.TRef sig ⟨S16, .i32⟩) (fun x y u v j => (Host.argReduce reducer_argmax_f32_i32 x y u v reducesTo_S16x8192_S16_d1 h_S_ j).2) ]

/-- The body's operations 33 … 35 of 41. -/
abbrev trip_w3 : List (HloOp τ sig (Elt F)) :=
  [ StableHlo.TRef.unary (.of main_v3_3 : StableHlo.TRef sig ⟨S16, .i32⟩) (.of main_while0b_call2_v0 : StableHlo.TRef sig ⟨S1x16, .i32⟩) (broadcastInDim S1x16 ![1] bcast_S16_S1x16_1),
    StableHlo.TRef.nullary (.of main_while0b_call2_c : StableHlo.TRef sig ⟨S_, .i32⟩) (constantI S_ 32 0#32),
    StableHlo.TRef.binaryIndexed (.of main_v3_4 : StableHlo.TRef sig ⟨S1024x16, .i32⟩) (.of main_while0b_call2_v0 : StableHlo.TRef sig ⟨S1x16, .i32⟩) ![(.of main_v3_1 : StableHlo.TRef sig ⟨S_, .i32⟩), (.of main_while0b_call2_c : StableHlo.TRef sig ⟨S_, .i32⟩)] (.of main_while0b_v15 : StableHlo.TRef sig ⟨S1024x16, .i32⟩) (fun x u i => Host.dynamicUpdateSlice x u (fun k => (i k (Shape.Idx.first h_S_)).toInt) updateFits_S1024x16_S1x16) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0OpsA_cut : (while0OpsA : List (HloOp τ sig (Elt F))) = trip_wA := rfl
set_option maxRecDepth 5000 in
/-- `while0Ops0_3` is its windows in order. -/
theorem while0Ops0_3_cut : (while0Ops0_3 : List (HloOp τ sig (Elt F))) = trip_w3 := rfl

set_option maxRecDepth 8192 in
/-- `main_while0b_v7`'s composed term of the carried buffers (named: it is used 3 times). -/
def res_main_while0b_v7 (V0 : Valuation τ sig (Elt F)) : (Proc.devRef .tc main_while0b_v7 : DevRef τ sig).ty.Contents (Elt F) :=
  broadcastInDim S16x1x1 ![0] bcast_S16_S16x1x1_0 (V0 (Proc.devRef .tc main_v3_3))

set_option maxRecDepth 8192 in
/-- `main_while0b_call0_v4`'s composed term of the carried buffers (named: it is used 3 times). -/
def res_main_while0b_call0_v4 (V0 : Valuation τ sig (Elt F)) : (Proc.devRef .tc main_while0b_call0_v4 : DevRef τ sig).ty.Contents (Elt F) :=
  select (cmpi .slt (res_main_while0b_v7 V0) (broadcastInDim S16x1x1 ![] bcast_S_S16x1x1 (constantI S_ 32 0#32))) (addi (res_main_while0b_v7 V0) (broadcastInDim S16x1x1 ![] bcast_S_S16x1x1 (constantI S_ 32 8192#32))) (res_main_while0b_v7 V0)

set_option maxRecDepth 8192 in
/-- `main_while0b_v10`'s composed term of the carried buffers (named: it is used 2 times). -/
def res_main_while0b_v10 (V0 : Valuation τ sig (Elt F)) : (Proc.devRef .tc main_while0b_v10 : DevRef τ sig).ty.Contents (Elt F) :=
  subf (V0 (Proc.devRef .tc main_v3_0)) (broadcastInDim S16x8192x3 ![0, 1, 2] bcast_S16x1x3_S16x8192x3_0_1_2 (select (broadcastInDim S16x1x3 ![0, 1] bcast_S16x1_S16x1x3_0_1 (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_)) (Host.gather gather_S16x8192x3_S16x1x1_S16x1x3_2_1_0_0_1_2_113 (V0 (Proc.devRef .tc main_v3_0)) (res_main_while0b_call0_v4 V0)) (broadcastInDim S16x1x3 ![] bcast_S_S16x1x3 (constant S_ .f32 0x7FC00000#32))))

set_option maxRecDepth 8192 in
/-- `main_while0b_v13`'s composed term of the carried buffers (named: it is used 2 times). -/
def res_main_while0b_v13 (V0 : Valuation τ sig (Elt F)) : (Proc.devRef .tc main_while0b_v13 : DevRef τ sig).ty.Contents (Elt F) :=
  minimumf (V0 (Proc.devRef .tc main_v3_2)) (Host.reduceAdd (mulf (res_main_while0b_v10 V0) (res_main_while0b_v10 V0)) (constant S_ .f32 0x00000000#32) reducesTo_S16x8192x3_S16x8192_d2 h_S_)

/-- The index the body's @argmax returns, of the carried buffers. -/
def res_arg (V0 : Valuation τ sig (Elt F)) : (Proc.devRef .tc main_while0b_v14 : DevRef τ sig).ty.Contents (Elt F) :=
  (fun j => (Host.argReduce reducer_argmax_f32_i32 (res_main_while0b_v13 V0) (iotaInDim S16x8192 32 1) (constant S_ .f32 0xFF800000#32) (constantI S_ 32 0#32) reducesTo_S16x8192_S16_d1 h_S_ j).2)

/-- The device's buffer contents before the body's first window. -/
def val0 (V0 : Valuation τ sig (Elt F)) : Valuation τ sig (Elt F) := V0
theorem val0_main_v3_3 (V0 : Valuation τ sig (Elt F)) : val0 V0 (no_index (Proc.devRef .tc main_v3_3)) = V0 (Proc.devRef .tc main_v3_3) := rfl
theorem val0_main_v3_0 (V0 : Valuation τ sig (Elt F)) : val0 V0 (no_index (Proc.devRef .tc main_v3_0)) = V0 (Proc.devRef .tc main_v3_0) := rfl
theorem val0_main_v3_2 (V0 : Valuation τ sig (Elt F)) : val0 V0 (no_index (Proc.devRef .tc main_v3_2)) = V0 (Proc.devRef .tc main_v3_2) := rfl
theorem val0_main_v3_4 (V0 : Valuation τ sig (Elt F)) : val0 V0 (no_index (Proc.devRef .tc main_v3_4)) = V0 (Proc.devRef .tc main_v3_4) := rfl
theorem val0_main_v3_1 (V0 : Valuation τ sig (Elt F)) : val0 V0 (no_index (Proc.devRef .tc main_v3_1)) = V0 (Proc.devRef .tc main_v3_1) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_v7]
set_option maxRecDepth 8192 in
theorem trip_w0_writes : (trip_w0 : List (HloOp τ sig (Elt F))).Forall fun op => op.writes ⊆ (trip_w0_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v3_3 (V0 : Valuation τ sig (Elt F)) : val1 V0 (no_index (Proc.devRef .tc main_v3_3)) = V0 (Proc.devRef .tc main_v3_3) :=
  (val1_keep V0 main_v3_3 (by decide)).trans (val0_main_v3_3 V0)
theorem val1_main_v3_0 (V0 : Valuation τ sig (Elt F)) : val1 V0 (no_index (Proc.devRef .tc main_v3_0)) = V0 (Proc.devRef .tc main_v3_0) :=
  (val1_keep V0 main_v3_0 (by decide)).trans (val0_main_v3_0 V0)
theorem val1_main_v3_2 (V0 : Valuation τ sig (Elt F)) : val1 V0 (no_index (Proc.devRef .tc main_v3_2)) = V0 (Proc.devRef .tc main_v3_2) :=
  (val1_keep V0 main_v3_2 (by decide)).trans (val0_main_v3_2 V0)
theorem val1_main_v3_4 (V0 : Valuation τ sig (Elt F)) : val1 V0 (no_index (Proc.devRef .tc main_v3_4)) = V0 (Proc.devRef .tc main_v3_4) :=
  (val1_keep V0 main_v3_4 (by decide)).trans (val0_main_v3_4 V0)
theorem val1_main_v3_1 (V0 : Valuation τ sig (Elt F)) : val1 V0 (no_index (Proc.devRef .tc main_v3_1)) = V0 (Proc.devRef .tc main_v3_1) :=
  (val1_keep V0 main_v3_1 (by decide)).trans (val0_main_v3_1 V0)
set_option maxRecDepth 8192 in
theorem val1_main_while0b_v7 (V0 : Valuation τ sig (Elt F)) : val1 V0 (no_index (Proc.devRef .tc main_while0b_v7)) = res_main_while0b_v7 V0 := by
  unfold val1
  simp only [trip_w0]
  after_results_entrywise [val0_main_v3_3, res_main_while0b_v7, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v8]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v3_3 (V0 : Valuation τ sig (Elt F)) : val2 V0 (no_index (Proc.devRef .tc main_v3_3)) = V0 (Proc.devRef .tc main_v3_3) :=
  (val2_keep V0 main_v3_3 (by decide)).trans (val1_main_v3_3 V0)
theorem val2_main_v3_0 (V0 : Valuation τ sig (Elt F)) : val2 V0 (no_index (Proc.devRef .tc main_v3_0)) = V0 (Proc.devRef .tc main_v3_0) :=
  (val2_keep V0 main_v3_0 (by decide)).trans (val1_main_v3_0 V0)
theorem val2_main_v3_2 (V0 : Valuation τ sig (Elt F)) : val2 V0 (no_index (Proc.devRef .tc main_v3_2)) = V0 (Proc.devRef .tc main_v3_2) :=
  (val2_keep V0 main_v3_2 (by decide)).trans (val1_main_v3_2 V0)
theorem val2_main_v3_4 (V0 : Valuation τ sig (Elt F)) : val2 V0 (no_index (Proc.devRef .tc main_v3_4)) = V0 (Proc.devRef .tc main_v3_4) :=
  (val2_keep V0 main_v3_4 (by decide)).trans (val1_main_v3_4 V0)
theorem val2_main_v3_1 (V0 : Valuation τ sig (Elt F)) : val2 V0 (no_index (Proc.devRef .tc main_v3_1)) = V0 (Proc.devRef .tc main_v3_1) :=
  (val2_keep V0 main_v3_1 (by decide)).trans (val1_main_v3_1 V0)
set_option maxRecDepth 8192 in
set_option maxHeartbeats 2000000 in
theorem val2_main_while0b_v8 (V0 : Valuation τ sig (Elt F)) : val2 V0 (no_index (Proc.devRef .tc main_while0b_v8)) = select (broadcastInDim S16x1x3 ![0, 1] bcast_S16x1_S16x1x3_0_1 (Host.reduce IntOp.andi (andi (cmpi .sge (res_main_while0b_call0_v4 V0) (broadcastInDim S16x1x1 ![] bcast_S_S16x1x1 (constantI S_ 32 0#32))) (cmpi .sle (res_main_while0b_call0_v4 V0) (broadcastInDim S16x1x1 ![0, 1, 2] bcast_S1x1x1_S16x1x1_0_1_2 (broadcastInDim S1x1x1 ![2] bcast_S1_S1x1x1_2 (constantI S1 32 8191#32))))) (constantI S_ 1 1#1) reducesTo_S16x1x1_S16x1_d2 h_S_)) (Host.gather gather_S16x8192x3_S16x1x1_S16x1x3_2_1_0_0_1_2_113 (V0 (Proc.devRef .tc main_v3_0)) (res_main_while0b_call0_v4 V0)) (broadcastInDim S16x1x3 ![] bcast_S_S16x1x3 (constant S_ .f32 0x7FC00000#32)) := by
  unfold val2
  simp only [trip_w1]
  after_results_entrywise [val1_main_while0b_v7, val1_main_v3_0, res_main_while0b_call0_v4, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v9, main_while0b_v10, main_while0b_v11, main_while0b_cst_6, main_while0b_v12, main_while0b_v13]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v3_3 (V0 : Valuation τ sig (Elt F)) : val3 V0 (no_index (Proc.devRef .tc main_v3_3)) = V0 (Proc.devRef .tc main_v3_3) :=
  (val3_keep V0 main_v3_3 (by decide)).trans (val2_main_v3_3 V0)
theorem val3_main_v3_0 (V0 : Valuation τ sig (Elt F)) : val3 V0 (no_index (Proc.devRef .tc main_v3_0)) = V0 (Proc.devRef .tc main_v3_0) :=
  (val3_keep V0 main_v3_0 (by decide)).trans (val2_main_v3_0 V0)
theorem val3_main_v3_2 (V0 : Valuation τ sig (Elt F)) : val3 V0 (no_index (Proc.devRef .tc main_v3_2)) = V0 (Proc.devRef .tc main_v3_2) :=
  (val3_keep V0 main_v3_2 (by decide)).trans (val2_main_v3_2 V0)
theorem val3_main_v3_4 (V0 : Valuation τ sig (Elt F)) : val3 V0 (no_index (Proc.devRef .tc main_v3_4)) = V0 (Proc.devRef .tc main_v3_4) :=
  (val3_keep V0 main_v3_4 (by decide)).trans (val2_main_v3_4 V0)
theorem val3_main_v3_1 (V0 : Valuation τ sig (Elt F)) : val3 V0 (no_index (Proc.devRef .tc main_v3_1)) = V0 (Proc.devRef .tc main_v3_1) :=
  (val3_keep V0 main_v3_1 (by decide)).trans (val2_main_v3_1 V0)
set_option maxRecDepth 8192 in
set_option maxHeartbeats 900000 in
theorem val3_main_while0b_v13 (V0 : Valuation τ sig (Elt F)) : val3 V0 (no_index (Proc.devRef .tc main_while0b_v13)) = res_main_while0b_v13 V0 := by
  unfold val3
  simp only [trip_w2]
  after_results_entrywise [val2_main_while0b_v8, val2_main_v3_0, val2_main_v3_2, res_main_while0b_v10, res_main_while0b_v13, cast_eq]
/-- The device's buffer contents after the body's @argmax. -/
def valA (V0 : Valuation τ sig (Elt F)) : Valuation τ sig (Elt F) := after trip_wA (val3 V0)
/-- The buffers that window `trip_wA`'s operations write. -/
abbrev trip_wA_W : List (Ref sig .tc) := [main_while0b_call1_v0, main_while0b_call1_cst, main_while0b_call1_c, main_while0b_call1_v1_0, main_while0b_v14]
set_option maxRecDepth 8192 in
theorem trip_wA_writes : (trip_wA : List (HloOp τ sig (Elt F))).Forall fun op => op.writes ⊆ (trip_wA_W.map (Proc.devRef (τ := τ) .tc)).toFinset :=
  StableHlo.forall_writes_sub_of_map rfl
/-- A buffer that window `trip_wA` does not write keeps its contents through it. -/
theorem valA_keep (V0 : Valuation τ sig (Elt F)) (r : Ref sig .tc) (h : r ∉ trip_wA_W) :
    valA V0 (Proc.devRef .tc r) = val3 V0 (Proc.devRef .tc r) :=
  after_of_writes_sub trip_wA _ trip_wA_writes h
theorem valA_main_v3_3 (V0 : Valuation τ sig (Elt F)) : valA V0 (no_index (Proc.devRef .tc main_v3_3)) = V0 (Proc.devRef .tc main_v3_3) :=
  (valA_keep V0 main_v3_3 (by decide)).trans (val3_main_v3_3 V0)
theorem valA_main_v3_0 (V0 : Valuation τ sig (Elt F)) : valA V0 (no_index (Proc.devRef .tc main_v3_0)) = V0 (Proc.devRef .tc main_v3_0) :=
  (valA_keep V0 main_v3_0 (by decide)).trans (val3_main_v3_0 V0)
theorem valA_main_v3_2 (V0 : Valuation τ sig (Elt F)) : valA V0 (no_index (Proc.devRef .tc main_v3_2)) = V0 (Proc.devRef .tc main_v3_2) :=
  (valA_keep V0 main_v3_2 (by decide)).trans (val3_main_v3_2 V0)
theorem valA_main_v3_4 (V0 : Valuation τ sig (Elt F)) : valA V0 (no_index (Proc.devRef .tc main_v3_4)) = V0 (Proc.devRef .tc main_v3_4) :=
  (valA_keep V0 main_v3_4 (by decide)).trans (val3_main_v3_4 V0)
theorem valA_main_v3_1 (V0 : Valuation τ sig (Elt F)) : valA V0 (no_index (Proc.devRef .tc main_v3_1)) = V0 (Proc.devRef .tc main_v3_1) :=
  (valA_keep V0 main_v3_1 (by decide)).trans (val3_main_v3_1 V0)
theorem valA_main_while0b_v13 (V0 : Valuation τ sig (Elt F)) : valA V0 (no_index (Proc.devRef .tc main_while0b_v13)) = res_main_while0b_v13 V0 :=
  (valA_keep V0 main_while0b_v13 (by decide)).trans (val3_main_while0b_v13 V0)
set_option maxRecDepth 8192 in
set_option maxHeartbeats 900000 in
theorem valA_main_while0b_v14 (V0 : Valuation τ sig (Elt F)) : valA V0 (no_index (Proc.devRef .tc main_while0b_v14)) = res_arg V0 := by
  unfold valA res_arg
  simp only [trip_wA]
  after_results_entrywise [val3_main_while0b_v13, cast_eq]

/-- The device's buffer contents after the body's first 4 windows. -/
def val4 (V0 : Valuation τ sig (Elt F)) : Valuation τ sig (Elt F) := after trip_w3 (valA V0)
/-- The buffers that window `trip_w3`'s operations write. -/
abbrev trip_w3_W : List (Ref sig .tc) := [main_while0b_call2_v0, main_while0b_call2_c, main_while0b_v15]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = valA V0 (Proc.devRef .tc r) :=
  after_of_writes_sub trip_w3 _ trip_w3_writes h
theorem val4_main_v3_3 (V0 : Valuation τ sig (Elt F)) : val4 V0 (no_index (Proc.devRef .tc main_v3_3)) = V0 (Proc.devRef .tc main_v3_3) :=
  (val4_keep V0 main_v3_3 (by decide)).trans (valA_main_v3_3 V0)
theorem val4_main_v3_0 (V0 : Valuation τ sig (Elt F)) : val4 V0 (no_index (Proc.devRef .tc main_v3_0)) = V0 (Proc.devRef .tc main_v3_0) :=
  (val4_keep V0 main_v3_0 (by decide)).trans (valA_main_v3_0 V0)
theorem val4_main_v3_2 (V0 : Valuation τ sig (Elt F)) : val4 V0 (no_index (Proc.devRef .tc main_v3_2)) = V0 (Proc.devRef .tc main_v3_2) :=
  (val4_keep V0 main_v3_2 (by decide)).trans (valA_main_v3_2 V0)
theorem val4_main_v3_4 (V0 : Valuation τ sig (Elt F)) : val4 V0 (no_index (Proc.devRef .tc main_v3_4)) = V0 (Proc.devRef .tc main_v3_4) :=
  (val4_keep V0 main_v3_4 (by decide)).trans (valA_main_v3_4 V0)
theorem val4_main_v3_1 (V0 : Valuation τ sig (Elt F)) : val4 V0 (no_index (Proc.devRef .tc main_v3_1)) = V0 (Proc.devRef .tc main_v3_1) :=
  (val4_keep V0 main_v3_1 (by decide)).trans (valA_main_v3_1 V0)
theorem val4_main_while0b_v13 (V0 : Valuation τ sig (Elt F)) : val4 V0 (no_index (Proc.devRef .tc main_while0b_v13)) = res_main_while0b_v13 V0 :=
  (val4_keep V0 main_while0b_v13 (by decide)).trans (valA_main_while0b_v13 V0)
theorem val4_main_while0b_v14 (V0 : Valuation τ sig (Elt F)) : val4 V0 (no_index (Proc.devRef .tc main_while0b_v14)) = res_arg V0 :=
  (val4_keep V0 main_while0b_v14 (by decide)).trans (valA_main_while0b_v14 V0)
set_option maxRecDepth 8192 in
theorem val4_main_while0b_v15 (V0 : Valuation τ sig (Elt F)) : val4 V0 (no_index (Proc.devRef .tc main_while0b_v15)) = Host.dynamicUpdateSlice (V0 (Proc.devRef .tc main_v3_4)) (broadcastInDim S1x16 ![1] bcast_S16_S1x16_1 (V0 (Proc.devRef .tc main_v3_3))) (fun k => (((![V0 (Proc.devRef .tc main_v3_1), constantI S_ 32 0#32] : Fin 2 → (⟨S_, .i32⟩ : BufTy).Contents (Elt F))) k (Shape.Idx.first h_S_)).toInt) updateFits_S1024x16_S1x16 := by
  unfold val4
  simp only [trip_w3]
  after_results_entrywise [valA_main_v3_1, valA_main_v3_3, valA_main_v3_4, cast_eq]

set_option maxRecDepth 8192 in
/-- The body's stretches before `while0Ops0_4`, from any contents: their windows in order. -/
theorem trip_windows (V0 : Valuation τ sig (Elt F)) : after while0Ops0_3 (after while0OpsA (after while0Ops0_2 (after while0Ops0_1 (after while0Ops0 (V0))))) = val4 V0 := by
  simp only [while0Ops0_cut, while0Ops0_1_cut, while0Ops0_2_cut, while0OpsA_cut, while0Ops0_3_cut, after_append]
  rfl

set_option maxRecDepth 8192 in
set_option maxHeartbeats 2000000 in
/-- `main_v3_0` after one trip's body, from any contents. -/
theorem trip_main_v3_0 (V0 : Valuation τ sig (Elt F)) : afterL bodyI V0 (no_index (Proc.devRef .tc main_v3_0)) = V0 (Proc.devRef .tc main_v3_0) := by
  simp only [bodyI, afterL_cons, afterL_nil, trip_windows]
  after_results
  all_goals (try simp only [val4_main_while0b_v13, val4_main_while0b_v14, val4_main_while0b_v15, val4_main_v3_0, val4_main_v3_1, val4_main_v3_2, val4_main_v3_3, val4_main_v3_4]) <;> rfl
set_option maxRecDepth 8192 in
set_option maxHeartbeats 2000000 in
/-- `main_v3_1` after one trip's body, from any contents. -/
theorem trip_main_v3_1 (V0 : Valuation τ sig (Elt F)) : afterL bodyI V0 (no_index (Proc.devRef .tc main_v3_1)) = id (addi (V0 (Proc.devRef .tc main_v3_1)) (constantI S_ 32 1#32)) := by
  simp only [bodyI, afterL_cons, afterL_nil, trip_windows]
  after_results
  all_goals (try simp only [val4_main_while0b_v13, val4_main_while0b_v14, val4_main_while0b_v15, val4_main_v3_0, val4_main_v3_1, val4_main_v3_2, val4_main_v3_3, val4_main_v3_4]) <;> rfl
set_option maxRecDepth 8192 in
set_option maxHeartbeats 2000000 in
/-- `main_v3_2` after one trip's body, from any contents. -/
theorem trip_main_v3_2 (V0 : Valuation τ sig (Elt F)) : afterL bodyI V0 (no_index (Proc.devRef .tc main_v3_2)) = id (res_main_while0b_v13 V0) := by
  simp only [bodyI, afterL_cons, afterL_nil, trip_windows]
  after_results
  all_goals (try simp only [val4_main_while0b_v13, val4_main_while0b_v14, val4_main_while0b_v15, val4_main_v3_0, val4_main_v3_1, val4_main_v3_2, val4_main_v3_3, val4_main_v3_4]) <;> rfl
set_option maxRecDepth 8192 in
set_option maxHeartbeats 2000000 in
/-- `main_v3_3` after one trip's body, from any contents. -/
theorem trip_main_v3_3 (V0 : Valuation τ sig (Elt F)) : afterL bodyI V0 (no_index (Proc.devRef .tc main_v3_3)) = id (res_arg V0) := by
  simp only [bodyI, afterL_cons, afterL_nil, trip_windows]
  after_results
  all_goals (try simp only [val4_main_while0b_v13, val4_main_while0b_v14, val4_main_while0b_v15, val4_main_v3_0, val4_main_v3_1, val4_main_v3_2, val4_main_v3_3, val4_main_v3_4]) <;> rfl
set_option maxRecDepth 8192 in
set_option maxHeartbeats 2000000 in
/-- `main_v3_4` after one trip's body, from any contents. -/
theorem trip_main_v3_4 (V0 : Valuation τ sig (Elt F)) : afterL bodyI V0 (no_index (Proc.devRef .tc main_v3_4)) = id (Host.dynamicUpdateSlice (V0 (Proc.devRef .tc main_v3_4)) (broadcastInDim S1x16 ![1] bcast_S16_S1x16_1 (V0 (Proc.devRef .tc main_v3_3))) (fun k => (((![V0 (Proc.devRef .tc main_v3_1), constantI S_ 32 0#32] : Fin 2 → (⟨S_, .i32⟩ : BufTy).Contents (Elt F))) k (Shape.Idx.first h_S_)).toInt) updateFits_S1024x16_S1x16) := by
  simp only [bodyI, afterL_cons, afterL_nil, trip_windows]
  after_results
  all_goals (try simp only [val4_main_while0b_v13, val4_main_while0b_v14, val4_main_while0b_v15, val4_main_v3_0, val4_main_v3_1, val4_main_v3_2, val4_main_v3_3, val4_main_v3_4]) <;> rfl

/-- The loop's carried buffers. -/
abbrev carriedRefs : List (Ref sig .tc) := [main_v3_0, main_v3_1, main_v3_2, main_v3_3, main_v3_4]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v7_congr {V0 V0' : Valuation τ sig (Elt F)} (h : Agree V0 V0') : res_main_while0b_v7 V0 = res_main_while0b_v7 V0' := by
  unfold res_main_while0b_v7
  rw [h main_v3_3 (by decide)]
set_option maxRecDepth 8192 in
theorem res_main_while0b_call0_v4_congr {V0 V0' : Valuation τ sig (Elt F)} (h : Agree V0 V0') : res_main_while0b_call0_v4 V0 = res_main_while0b_call0_v4 V0' := by
  unfold res_main_while0b_call0_v4
  rw [res_main_while0b_v7_congr h]
set_option maxRecDepth 8192 in
theorem res_main_while0b_v10_congr {V0 V0' : Valuation τ sig (Elt F)} (h : Agree V0 V0') : res_main_while0b_v10 V0 = res_main_while0b_v10 V0' := by
  unfold res_main_while0b_v10
  rw [res_main_while0b_call0_v4_congr h, h main_v3_0 (by decide)]
set_option maxRecDepth 8192 in
theorem res_main_while0b_v13_congr {V0 V0' : Valuation τ sig (Elt F)} (h : Agree V0 V0') : res_main_while0b_v13 V0 = res_main_while0b_v13 V0' := by
  unfold res_main_while0b_v13
  rw [res_main_while0b_v10_congr h, h main_v3_2 (by decide)]

set_option maxRecDepth 8192 in
/-- `main_v3_1` after one trip, of the contents before it. -/
def step_main_v3_1 (V0 : Valuation τ sig (Elt F)) : (Proc.devRef .tc main_v3_1 : DevRef τ sig).ty.Contents (Elt F) :=
  id (addi (V0 (Proc.devRef .tc main_v3_1)) (constantI S_ 32 1#32))
set_option maxRecDepth 8192 in
theorem step_main_v3_1_congr {V0 V0' : Valuation τ sig (Elt F)} (h : Agree V0 V0') : step_main_v3_1 V0 = step_main_v3_1 V0' := by
  unfold step_main_v3_1
  rw [h main_v3_1 (by decide)]
set_option maxRecDepth 8192 in
/-- `main_v3_2` after one trip, of the contents before it. -/
def step_main_v3_2 (V0 : Valuation τ sig (Elt F)) : (Proc.devRef .tc main_v3_2 : DevRef τ sig).ty.Contents (Elt F) :=
  id (res_main_while0b_v13 V0)
set_option maxRecDepth 8192 in
theorem step_main_v3_2_congr {V0 V0' : Valuation τ sig (Elt F)} (h : Agree V0 V0') : step_main_v3_2 V0 = step_main_v3_2 V0' := by
  unfold step_main_v3_2
  rw [res_main_while0b_v13_congr h]
set_option maxRecDepth 8192 in
/-- `main_v3_3` after one trip, of the contents before it. -/
def step_main_v3_3 (V0 : Valuation τ sig (Elt F)) : (Proc.devRef .tc main_v3_3 : DevRef τ sig).ty.Contents (Elt F) :=
  id (res_arg V0)
set_option maxRecDepth 8192 in
theorem step_main_v3_3_congr {V0 V0' : Valuation τ sig (Elt F)} (h : Agree V0 V0') : step_main_v3_3 V0 = step_main_v3_3 V0' := by
  unfold step_main_v3_3
  unfold res_arg
  rw [res_main_while0b_v13_congr h]
set_option maxRecDepth 8192 in
/-- `main_v3_4` after one trip, of the contents before it. -/
def step_main_v3_4 (V0 : Valuation τ sig (Elt F)) : (Proc.devRef .tc main_v3_4 : DevRef τ sig).ty.Contents (Elt F) :=
  id (Host.dynamicUpdateSlice (V0 (Proc.devRef .tc main_v3_4)) (broadcastInDim S1x16 ![1] bcast_S16_S1x16_1 (V0 (Proc.devRef .tc main_v3_3))) (fun k => (((![V0 (Proc.devRef .tc main_v3_1), constantI S_ 32 0#32] : Fin 2 → (⟨S_, .i32⟩ : BufTy).Contents (Elt F))) k (Shape.Idx.first h_S_)).toInt) updateFits_S1024x16_S1x16)
set_option maxRecDepth 8192 in
theorem step_main_v3_4_congr {V0 V0' : Valuation τ sig (Elt F)} (h : Agree V0 V0') : step_main_v3_4 V0 = step_main_v3_4 V0' := by
  unfold step_main_v3_4
  rw [h main_v3_4 (by decide), h main_v3_3 (by decide), h main_v3_1 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v3_1) (step_main_v3_1 V0)) (Proc.devRef .tc main_v3_2) (step_main_v3_2 V0)) (Proc.devRef .tc main_v3_3) (step_main_v3_3 V0)) (Proc.devRef .tc main_v3_4) (step_main_v3_4 V0)

theorem STEP_main_v3_0 (V0 : Valuation τ sig (Elt F)) : STEP V0 (Proc.devRef .tc main_v3_0) = V0 (Proc.devRef .tc main_v3_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v3_1 (V0 : Valuation τ sig (Elt F)) : STEP V0 (Proc.devRef .tc main_v3_1) = step_main_v3_1 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v3_2 (V0 : Valuation τ sig (Elt F)) : STEP V0 (Proc.devRef .tc main_v3_2) = step_main_v3_2 V0 := by
  unfold STEP; rw [Function.update_of_ne (devRef_ne_of_ne (by decide))]; rw [Function.update_of_ne (devRef_ne_of_ne (by decide))]; rw [Function.update_self]
theorem STEP_main_v3_3 (V0 : Valuation τ sig (Elt F)) : STEP V0 (Proc.devRef .tc main_v3_3) = step_main_v3_3 V0 := by
  unfold STEP; rw [Function.update_of_ne (devRef_ne_of_ne (by decide))]; rw [Function.update_self]
theorem STEP_main_v3_4 (V0 : Valuation τ sig (Elt F)) : STEP V0 (Proc.devRef .tc main_v3_4) = step_main_v3_4 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v3_0 (after condOps X)).trans ((hc main_v3_0 (by decide)).trans (STEP_main_v3_0 X).symm)
  · exact (trip_main_v3_1 (after condOps X)).trans ((step_main_v3_1_congr hc).trans (STEP_main_v3_1 X).symm)
  · exact (trip_main_v3_2 (after condOps X)).trans ((step_main_v3_2_congr hc).trans (STEP_main_v3_2 X).symm)
  · exact (trip_main_v3_3 (after condOps X)).trans ((step_main_v3_3_congr hc).trans (STEP_main_v3_3 X).symm)
  · exact (trip_main_v3_4 (after condOps X)).trans ((step_main_v3_4_congr hc).trans (STEP_main_v3_4 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v3_0, STEP_main_v3_0]; exact h main_v3_0 (by decide)
  · rw [STEP_main_v3_1, STEP_main_v3_1]; exact step_main_v3_1_congr h
  · rw [STEP_main_v3_2, STEP_main_v3_2]; exact step_main_v3_2_congr h
  · rw [STEP_main_v3_3, STEP_main_v3_3]; exact step_main_v3_3_congr h
  · rw [STEP_main_v3_4, STEP_main_v3_4]; exact step_main_v3_4_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0OpsA (V : Valuation τ sig (Elt F)) : after while0OpsA V (Proc.devRef .tc main_arg0) = V (Proc.devRef .tc main_arg0) :=
  after_of_writes_sub while0OpsA V while0OpsA_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_4, keep_main_arg0_while0Ops0_3, keep_main_arg0_while0OpsA, keep_main_arg0_while0Ops0_2, keep_main_arg0_while0Ops0_1, keep_main_arg0_while0Ops0, keep_main_arg0_condOps, atK_main_arg0 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_2, keep_main_arg0_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
set_option maxRecDepth 8192 in
/-- `main_v6`, which the operations after the loop make, of the contents they start from. -/
def out_main_v6 (V0 : Valuation τ sig (Elt F)) : (Proc.devRef .tc main_v6 : DevRef τ sig).ty.Contents (Elt F) :=
  select (broadcastInDim S16x1024x3 ![0, 1] bcast_S16x1024_S16x1024x3_0_1 (Host.reduce IntOp.andi (andi (cmpi .sge (select (cmpi .slt (broadcastInDim S16x1024x1 ![0, 1] bcast_S16x1024_S16x1024x1_0_1 (transpose S16x1024 [1, 0] (V0 (Proc.devRef .tc main_v3_4)) transposes_S1024x16_S16x1024_1_0)) (broadcastInDim S16x1024x1 ![] bcast_S_S16x1024x1 (constantI S_ 32 0#32))) (addi (broadcastInDim S16x1024x1 ![0, 1] bcast_S16x1024_S16x1024x1_0_1 (transpose S16x1024 [1, 0] (V0 (Proc.devRef .tc main_v3_4)) transposes_S1024x16_S16x1024_1_0)) (broadcastInDim S16x1024x1 ![] bcast_S_S16x1024x1 (constantI S_ 32 8192#32))) (broadcastInDim S16x1024x1 ![0, 1] bcast_S16x1024_S16x1024x1_0_1 (transpose S16x1024 [1, 0] (V0 (Proc.devRef .tc main_v3_4)) transposes_S1024x16_S16x1024_1_0))) (broadcastInDim S16x1024x1 ![] bcast_S_S16x1024x1 (constantI S_ 32 0#32))) (cmpi .sle (select (cmpi .slt (broadcastInDim S16x1024x1 ![0, 1] bcast_S16x1024_S16x1024x1_0_1 (transpose S16x1024 [1, 0] (V0 (Proc.devRef .tc main_v3_4)) transposes_S1024x16_S16x1024_1_0)) (broadcastInDim S16x1024x1 ![] bcast_S_S16x1024x1 (constantI S_ 32 0#32))) (addi (broadcastInDim S16x1024x1 ![0, 1] bcast_S16x1024_S16x1024x1_0_1 (transpose S16x1024 [1, 0] (V0 (Proc.devRef .tc main_v3_4)) transposes_S1024x16_S16x1024_1_0)) (broadcastInDim S16x1024x1 ![] bcast_S_S16x1024x1 (constantI S_ 32 8192#32))) (broadcastInDim S16x1024x1 ![0, 1] bcast_S16x1024_S16x1024x1_0_1 (transpose S16x1024 [1, 0] (V0 (Proc.devRef .tc main_v3_4)) transposes_S1024x16_S16x1024_1_0))) (broadcastInDim S16x1024x1 ![0, 1, 2] bcast_S1x1x1_S16x1024x1_0_1_2 (broadcastInDim S1x1x1 ![2] bcast_S1_S1x1x1_2 (constantI S1 32 8191#32))))) (constantI S_ 1 1#1) reducesTo_S16x1024x1_S16x1024_d2 h_S_)) (Host.gather gather_S16x8192x3_S16x1024x1_S16x1024x3_2_1_0_0_1_2_113 (V0 (Proc.devRef .tc main_arg0)) (select (cmpi .slt (broadcastInDim S16x1024x1 ![0, 1] bcast_S16x1024_S16x1024x1_0_1 (transpose S16x1024 [1, 0] (V0 (Proc.devRef .tc main_v3_4)) transposes_S1024x16_S16x1024_1_0)) (broadcastInDim S16x1024x1 ![] bcast_S_S16x1024x1 (constantI S_ 32 0#32))) (addi (broadcastInDim S16x1024x1 ![0, 1] bcast_S16x1024_S16x1024x1_0_1 (transpose S16x1024 [1, 0] (V0 (Proc.devRef .tc main_v3_4)) transposes_S1024x16_S16x1024_1_0)) (broadcastInDim S16x1024x1 ![] bcast_S_S16x1024x1 (constantI S_ 32 8192#32))) (broadcastInDim S16x1024x1 ![0, 1] bcast_S16x1024_S16x1024x1_0_1 (transpose S16x1024 [1, 0] (V0 (Proc.devRef .tc main_v3_4)) transposes_S1024x16_S16x1024_1_0)))) (broadcastInDim S16x1024x3 ![] bcast_S_S16x1024x3 (constant S_ .f32 0x7FC00000#32))
set_option maxRecDepth 65536 in
set_option maxHeartbeats 2000000 in
theorem post_main_v6 (V0 : Valuation τ sig (Elt F)) : afterL postI V0 (no_index (Proc.devRef .tc main_v6)) = out_main_v6 V0 := by
  unfold out_main_v6
  simp only [postI, afterL_cons, afterL_nil, hostOps0_1, hostOps0_2]
  after_results_entrywise [cast_eq]
set_option maxRecDepth 8192 in
theorem out_main_v6_congr {V0 V0' : Valuation τ sig (Elt F)} (h : Agree V0 V0') (h_main_arg0 : V0 (Proc.devRef .tc main_arg0) = V0' (Proc.devRef .tc main_arg0)) : out_main_v6 V0 = out_main_v6 V0' := by
  unfold out_main_v6
  rw [h main_v3_4 (by decide), h_main_arg0]
/-- THE RUN: on every device, for any float values, from any memory with zero counters, every weakly fair execution
    of @main terminates with each result at its component of `STEP` iterated 1024 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v6) = out_main_v6 (STEP^[1024] (entryContents preI m c))
      ∧ r.2.mem ((c.tc : Thread nD τ).loc main_arg0) = m ((c.tc : Thread nD τ).loc main_arg0) :=
  (θ_run defs _ _).mono (fun _ h c => ⟨(h c main_v6 rfl).trans ((post_main_v6 _).trans (out_main_v6_congr (fun j hj => (cond_keeps _ j hj).trans (atK_agree m c 1024 j hj)) ((keep_main_arg0_condOps _).trans ((atK_main_arg0 m c 1024).trans (iter_main_arg0 m c 1024).symm)))),
      (h c main_arg0 rfl).trans ((post_keeps_main_arg0 _).trans ((keep_main_arg0_condOps _).trans (atK_main_arg0 m c 1024)))⟩) (run_fold m ρ)

end Cert.ReferenceIdeal.Run

end
-- ==== Proof.RefOps.lean ====
module
public import proofs.«01_k».proof.Proof.RefRun
public import proofs.«01_k».proof.Proof.Math
import Idealize.ShloMosaic.Lib.Pointwise
import Idealize.ShloMosaic.Lib.WordCmp

/-!
# The reference's operations, read at an index

The take of points by number, its range test, the write of one row of centre numbers, and the arg-max.
-/

@[expose] public section
set_option maxRecDepth 16384
noncomputable section
namespace Cert.ReferenceIdeal.Fps
open Cert.ReferenceIdeal Cert.ReferenceIdeal.Gen
open Idealize.ShloMosaic Idealize.ShloMosaic.TcCoe Idealize.ShloMosaic.Tactic

/-- The dimension numbers of the reference's take: for each cloud, `M` points of its 8192, whole. -/
abbrev takePts (M : ℕ) (wf : GatherDims.WF ⟨3, ![16, 8192, 3]⟩ ⟨3, ![16, M, 1]⟩ ⟨3, ![16, M, 3]⟩ [2] [1] [0] [1] [0] 2 ![1, 1, 3]) :
    GatherDims ⟨3, ![16, 8192, 3]⟩ ⟨3, ![16, M, 1]⟩ ⟨3, ![16, M, 3]⟩ where
  offsetDims := [2]
  collapsedSliceDims := [1]
  operandBatchingDims := [0]
  startIndicesBatchingDims := [0]
  startIndexMap := [1]
  indexVectorDim := 2
  sliceSizes := ![1, 1, 3]
  wf := wf

/-- A word below half the range reads as itself, signed. -/
theorem toInt_word (n : ℕ) (h : n < 2 ^ 31) : (BitVec.ofNat 32 n).toInt = (n : ℤ) := by
  rw [BitVec.toInt_eq_toNat_of_lt (by rw [BitVec.toNat_ofNat, Nat.mod_eq_of_lt (by omega)]; omega),
    BitVec.toNat_ofNat, Nat.mod_eq_of_lt (by omega)]

/-- The take at `(b, m, c)`: coordinate `c` of the point whose number stands at `(b, m)`. -/
theorem takePts_apply (M : ℕ) (wf) (X : (⟨3, ![16, 8192, 3]⟩ : Shape).Idx → EReal) (w : IVec ⟨3, ![16, M, 1]⟩ 32)
    (b : Fin 16) (m : Fin M) (c : Fin 3) (f : Fin 8192) (h : w (ix3 b m 0) = BitVec.ofNat 32 f.val) :
    Host.gather (takePts M wf) X w (ix3 b m c) = X (ix3 b f c) := by
  unfold Host.gather
  refine congrArg X (funext fun a => Fin.ext ?_)
  show (takePts M wf).start (ix3 b m c) w a + (takePts M wf).batchCoord (ix3 b m c) a
      + (takePts M wf).offCoord (ix3 b m c) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (show (0 : Fin 3) ∈ [(0 : Fin 3)] by decide),
      GatherDims.offCoord_eq_zero _ _ _ (fun h => ((GatherDims.mem_sKept _ _).mp h).2 (show (0 : Fin 3) ∈ [(0 : Fin 3)] by decide))]
    simp only [Nat.zero_add, Nat.add_zero]
    unfold GatherDims.batchCoord
    rw [dif_pos (show (0 : Fin 3) ∈ (takePts M wf).operandBatchingDims from List.mem_singleton.mpr rfl)]
    rfl
  · rw [GatherDims.batchCoord_eq_zero _ _ _ (show (1 : Fin 3) ∉ [(0 : Fin 3)] by decide),
      GatherDims.offCoord_eq_zero _ _ _ (fun h => ((GatherDims.mem_sKept _ _).mp h).1 (show (1 : Fin 3) ∈ [(1 : Fin 3)] by decide))]
    simp only [Nat.add_zero]
    unfold GatherDims.start
    rw [dif_pos (show (1 : Fin 3) ∈ (takePts M wf).startIndexMap from List.mem_singleton.mpr rfl)]
    have hsi : (takePts M wf).siIdx (ix3 b m c) ⟨List.idxOf (1 : Fin 3) (takePts M wf).startIndexMap,
        List.idxOf_lt_length_iff.2 (List.mem_singleton.mpr rfl)⟩ = ix3 b m 0 := by
      funext b'; refine Fin.ext ?_
      match b' with
      | ⟨0, _⟩ => rfl
      | ⟨1, _⟩ => rfl
      | ⟨2, _⟩ => rfl
    have hf := f.isLt
    rw [hsi, h, toInt_word _ (by omega)]
    show min ((f.val : ℤ)).toNat (8192 - 1) = f.val
    omega
  · rw [GatherDims.batchCoord_eq_zero _ _ _ (show (2 : Fin 3) ∉ [(0 : Fin 3)] by decide)]
    unfold GatherDims.start GatherDims.offCoord
    rw [dif_neg (show (2 : Fin 3) ∉ (takePts M wf).startIndexMap from (by decide : (2 : Fin 3) ∉ [(1 : Fin 3)])),
      dif_pos ((GatherDims.mem_sKept _ _).mpr ⟨show (2 : Fin 3) ∉ [(1 : Fin 3)] by decide, show (2 : Fin 3) ∉ [(0 : Fin 3)] by decide⟩)]
    simp only [Nat.zero_add]
    rfl

/-- A point's number is not negative. -/
theorem slt_zero (f : Fin 8192) : IntOp.cmpi .slt (BitVec.ofNat 32 f.val) 0#32 = 0#1 := by
  have hf := f.isLt
  unfold IntOp.cmpi
  have : ¬ ((f.val : ℤ) < 0) := by omega
  simp [BitVec.slt, toInt_word f.val (by omega), this]
/-- A point's number is at least zero. -/
theorem sge_zero (f : Fin 8192) : IntOp.cmpi .sge (BitVec.ofNat 32 f.val) 0#32 = 1#1 := by
  have hf := f.isLt
  unfold IntOp.cmpi
  simp [BitVec.sle, toInt_word f.val (by omega)]
/-- A point's number is at most the last one. -/
theorem sle_last (f : Fin 8192) : IntOp.cmpi .sle (BitVec.ofNat 32 f.val) 8191#32 = 1#1 := by
  have hf := f.isLt
  have : (8191#32).toInt = 8191 := by decide
  unfold IntOp.cmpi
  simp [BitVec.sle, toInt_word f.val (by omega), this, Nat.le_of_lt_succ hf]

/-- The range test of one start index: a fold of one term, true where the word is a point's number. -/
theorem inRange (w : Fin 1 → BitVec 32) (f : Fin 8192) (h : w 0 = BitVec.ofNat 32 f.val) :
    Finset.fold IntOp.andi 1#1 (fun x => IntOp.andi (IntOp.cmpi .sge (w x) 0#32) (IntOp.cmpi .sle (w x) 8191#32)) Finset.univ = 1#1 := by
  rw [Finset.univ_unique, Finset.fold_singleton]
  show IntOp.andi (IntOp.andi (IntOp.cmpi .sge (w 0) 0#32) (IntOp.cmpi .sle (w 0) 8191#32)) 1#1 = 1#1
  rw [h, sge_zero, sle_last]
  rfl

/-- Writing one row of the centre table: row `n` is the update, every other row is kept. -/
theorem writeRow_apply (X : IVec S1024x16 32) (u : IVec S1x16 32) (n : ℕ) (hn : n < 1024) (k : Fin 1024) (b : Fin 16)
    (st : Fin 2 → Int) (h0 : st 0 = (n : ℤ)) (h1 : st 1 = 0) :
    Host.dynamicUpdateSlice X u st updateFits_S1024x16_S1x16 (ix2 k b) = if k.val = n then u (ix2 0 b) else X (ix2 k b) := by
  have hs : S1024x16.Slices ![n, 0] S1x16 := ⟨rfl, fun a => by
    match a with
    | ⟨0, _⟩ => show n + 1 ≤ 1024; omega
    | ⟨1, _⟩ => show 0 + 16 ≤ 16; omega⟩
  rw [WordCmp.dynamicUpdateSlice_eq_update X u st updateFits_S1024x16_S1x16 ![n, 0] hs (fun a => by
    match a with
    | ⟨0, _⟩ => exact h0
    | ⟨1, _⟩ => exact h1)]
  pointwise
  by_cases h : k.val = n
  · rw [dif_pos ⟨h.ge, by omega⟩, if_pos h]
    exact congrArg (fun a => u (ix2 a b)) (Fin.ext (by show k.val - n = 0; omega))
  · rw [dif_neg (by omega), if_neg h]

/-- Signed comparison of two points' numbers is comparison of the numbers. -/
theorem slt_word (a i : Fin 8192) :
    IntOp.cmpi .slt (BitVec.ofNat 32 a.val) (BitVec.ofNat 32 i.val) = BitVec.ofBool (decide (a < i)) := by
  have hi := i.isLt
  have ha := a.isLt
  unfold IntOp.cmpi
  simp [BitVec.slt, toInt_word a.val (by omega), toInt_word i.val (by omega)]

/-- One step of the reference's arg-max: the larger value, and of equal ones the lower number. -/
theorem reducer_eq (v e : EReal) (a i : Fin 8192) :
    reducer_argmax_f32_i32 (F := Ideal) (v, BitVec.ofNat 32 a.val) (e, BitVec.ofNat 32 i.val)
      = (if e < v then v else e, BitVec.ofNat 32 (if e < v ∨ v = e ∧ a < i then a else i).val) := by
  unfold reducer_argmax_f32_i32
  simp only [Ideal.cmpf_def, Ideal.cmp, slt_word]
  by_cases h1 : e < v <;> by_cases h2 : v = e <;> by_cases h3 : a < i <;>
    simp [h1, h2, h3, IntOp.ori, IntOp.andi, Scalar.select]

/-- A run of such steps keeps a value that bounds all pairs seen and is attained first at the number kept. -/
theorem foldl_reducer (d : Fin 8192 → EReal) (L : List (EReal × BitVec 32)) (hL : ∀ p ∈ L, ∃ i : Fin 8192, p = (d i, BitVec.ofNat 32 i.val))
    (S : Fin 8192 → Prop) (v : EReal) (a : Fin 8192) (hv : v ≤ d a) (hS : ∀ i, S i → d i ≤ v ∧ (d i = v → a ≤ i)) :
    ∃ v' a', L.foldl (reducer_argmax_f32_i32 (F := Ideal)) (v, BitVec.ofNat 32 a.val) = (v', BitVec.ofNat 32 a'.val) ∧ v' ≤ d a'
      ∧ ∀ i : Fin 8192, (S i ∨ (d i, BitVec.ofNat 32 i.val) ∈ L) → d i ≤ v' ∧ (d i = v' → a' ≤ i) := by
  induction L generalizing S v a with
  | nil => exact ⟨v, a, rfl, hv, fun i h => hS i (h.resolve_right List.not_mem_nil)⟩
  | cons p L ih =>
    obtain ⟨k, rfl⟩ := hL p List.mem_cons_self
    rw [List.foldl_cons, reducer_eq]
    obtain ⟨v', a', e, h1, h2⟩ := ih (fun q hq => hL q (List.mem_cons_of_mem _ hq)) (fun i => S i ∨ i = k)
      (if d k < v then v else d k) (if d k < v ∨ v = d k ∧ a < k then a else k) (by
        by_cases h1 : d k < v
        · simpa [h1] using hv
        · by_cases h2 : v = d k ∧ a < k
          · rw [if_neg h1, if_pos (Or.inr h2), ← h2.1]; exact hv
          · simp [h1, h2]) (by
        rintro i (hi | rfl)
        · obtain ⟨u1, u2⟩ := hS i hi
          by_cases h1 : d k < v
          · simpa [h1] using ⟨u1, u2⟩
          · by_cases h2 : v = d k ∧ a < k
            · rw [if_neg h1, if_pos (Or.inr h2), ← h2.1]; exact ⟨u1, u2⟩
            · simp only [h1, h2, or_self, if_false]
              refine ⟨u1.trans (not_lt.mp h1), fun e => ?_⟩
              have hk : v = d k := le_antisymm (not_lt.mp h1) (e ▸ u1)
              exact (not_lt.mp fun h => h2 ⟨hk, h⟩).trans (u2 (e.trans hk.symm))
        · by_cases h1 : d i < v
          · simp only [h1, if_true, true_or]
            exact ⟨h1.le, fun e => absurd e h1.ne⟩
          · by_cases h2 : v = d i ∧ a < i
            · rw [if_neg h1, if_pos (Or.inr h2), ← h2.1]
              exact ⟨le_refl _, fun _ => h2.2.le⟩
            · simp [h1, h2])
    refine ⟨v', a', e, h1, fun i hi => h2 i ?_⟩
    rcases hi with hi | hi
    · exact Or.inl (Or.inl hi)
    · rcases List.mem_cons.mp hi with h | h
      · refine Or.inl (Or.inr (Fin.ext ?_))
        have := congrArg BitVec.toNat (Prod.ext_iff.mp h).2
        have hi := i.isLt
        have hk := k.isLt
        simp only [BitVec.toNat_ofNat] at this
        omega
      · exact Or.inr h

/-- The reference's arg-max of a row: the lowest number at which the row is greatest. -/
theorem argmax_apply (x : FVec Ideal S16x8192 .f32) (b : Fin 16) :
    (Host.argReduce reducer_argmax_f32_i32 x (iotaInDim S16x8192 32 1) (constant S_ .f32 0xFF800000#32) (constantI S_ 32 0#32) reducesTo_S16x8192_S16_d1 h_S_ (ix1 b)).2 = BitVec.ofNat 32 (Cert.Fps.argLow (fun i => x (ix2 b i))).val := by
  rw [Ideal.argReduce_eq_reduce2, Host.reduce2_eq_foldl_fiber]
  have hbot : (constant S_ .f32 0xFF800000#32 : FVec Ideal S_ .f32) (Shape.Idx.first h_S_) = (⊥ : EReal) := by
    show Ideal.ofBits FTy.f32 4286578688#32 = ⊥
    simp [Ideal.ofBits, Ideal.ieee]
  have h0 : (constantI S_ 32 0#32) (Shape.Idx.first h_S_) = BitVec.ofNat 32 (0 : Fin 8192).val := rfl
  rw [hbot, h0]
  obtain ⟨v, a, e, h1, h2⟩ := foldl_reducer (fun i => x (ix2 b i))
    (Host.argReduceFiber x (iotaInDim S16x8192 32 1) reducesTo_S16x8192_S16_d1 (ix1 b)) (by
      intro p hp
      obtain ⟨n, hn, rfl⟩ := List.mem_map.mp hp
      have hd := of_decide_eq_true (List.mem_filter.mp hn).2
      obtain ⟨k, hk⟩ := (Shape.ReducesTo.fiber_r2_a1 reducesTo_S16x8192_S16_d1 (ix1 b) _).mp hd
      exact ⟨k, by rw [← hk]; rfl⟩) (fun _ => False) ⊥ 0 bot_le (fun i h => h.elim)
  rw [e]
  have hall : ∀ i : Fin 8192, x (ix2 b i) ≤ v ∧ (x (ix2 b i) = v → a ≤ i) := fun i => h2 i (Or.inr (by
    refine List.mem_map.mpr ⟨S16x8192.rowMajor (ix2 b i), List.mem_filter.mpr ⟨List.mem_finRange _, decide_eq_true ?_⟩, ?_⟩
    · rw [Equiv.symm_apply_apply]
      exact (Shape.ReducesTo.fiber_r2_a1 reducesTo_S16x8192_S16_d1 (ix1 b) _).mpr ⟨i, rfl⟩
    · rw [Equiv.symm_apply_apply]
      rfl))
  have hva : x (ix2 b a) = v := le_antisymm (hall a).1 h1
  have : Cert.Fps.IsArg (fun i => x (ix2 b i)) a :=
    ⟨fun j => (hall j).1.trans hva.ge, fun j hj => (hall j).2 (hj.trans hva)⟩
  rw [this.eq_argLow]
end Cert.ReferenceIdeal.Fps
end
-- ==== Proof.RefValue.lean ====
module

public import proofs.«01_k».proof.Proof.RefOps
import Idealize.ShloMosaic.Lib.Pointwise
import Idealize.ShloMosaic.Lib.StableHlo.RunRead
import Idealize.ShloMosaic.Lib.Quiescent

/-!
# What the reference computes

One trip of the reference's loop, read at an index at the extended reals, and the loop's carried arrays after `k`
trips: the distances and the latest centre are the recursion's at `k`, and the table holds the centres found before.
-/

@[expose] public section

set_option maxRecDepth 16384

noncomputable section

namespace Cert.ReferenceIdeal.Fps
open Cert.ReferenceIdeal Cert.ReferenceIdeal.Gen Cert.ReferenceIdeal.Ops Cert.ReferenceIdeal.Run
open Idealize.SL.Sem
open Idealize.ShloMosaic Idealize.ShloMosaic.TcCoe Idealize.ShloMosaic.Tactic
open Cert.Fps
open Idealize.ShloMosaic.StableHlo

/-- The wrapped start index is the index itself where that is a point's number. -/
theorem wrap_eq (w : BitVec 32) (f : Fin 8192) (h : w = BitVec.ofNat 32 f.val) :
    Scalar.select (IntOp.cmpi .slt w 0#32) (IntOp.addi w 8192#32) w = BitVec.ofNat 32 f.val := by
  rw [h, slt_zero]; rfl

/-- The start indices of a trip's take: the latest centres' numbers. -/
theorem start_apply (V : Valuation τ sig (Elt Ideal)) (b : Fin 16) (f : Fin 8192)
    (h : V (Proc.devRef .tc main_v3_3) (ix1 b) = BitVec.ofNat 32 f.val) :
    res_main_while0b_call0_v4 V (ix3 b 0 0) = BitVec.ofNat 32 f.val := by
  unfold res_main_while0b_call0_v4 res_main_while0b_v7
  generalize V (Proc.devRef .tc main_v3_3) = J at h ⊢
  pointwise
  exact wrap_eq _ f h

/-- A trip's take: of each cloud the point whose number is given, the range test being true. -/
theorem take_apply (X : S16x8192x3.Idx → EReal) (w : IVec S16x1x1 32) (N : S16x1x3.Idx → EReal) (b : Fin 16) (c : Fin 3) (f : Fin 8192)
    (h : w (ix3 b 0 0) = BitVec.ofNat 32 f.val) :
    select (broadcastInDim S16x1x3 ![0, 1] Facts₀.bcast_S16x1_S16x1x3_0_1 (Host.reduce IntOp.andi
        (andi (cmpi .sge w (broadcastInDim S16x1x1 ![] Facts₀.bcast_S_S16x1x1 (constantI S_ 32 0#32)))
          (cmpi .sle w (broadcastInDim S16x1x1 ![0, 1, 2] Facts₀.bcast_S1x1x1_S16x1x1_0_1_2
            (broadcastInDim S1x1x1 ![2] Facts₀.bcast_S1_S1x1x1_2 (constantI S1 32 8191#32)))))
        (constantI S_ 1 1#1) Facts₀.reducesTo_S16x1x1_S16x1_d2 Facts₀.h_S_))
      (Host.gather gather_S16x8192x3_S16x1x1_S16x1x3_2_1_0_0_1_2_113 X w) N (ix3 b 0 c) = X (ix3 b f c) := by
  have hg := takePts_apply 1 Facts₀.gather_S16x8192x3_S16x1x1_S16x1x3_2_1_0_0_1_2_113_wf X w b 0 c f h
  pointwise
  rw [inRange (fun x => w (ix3 b 0 x)) f h]
  exact hg

/-- A trip's differences: each point less the latest centre. -/
theorem diff_apply (V : Valuation τ sig (Elt Ideal)) (X : S16x8192x3.Idx → EReal) (hX : V (Proc.devRef .tc main_v3_0) = X)
    (b : Fin 16) (i : Fin 8192) (c : Fin 3) (f : Fin 8192)
    (h : V (Proc.devRef .tc main_v3_3) (ix1 b) = BitVec.ofNat 32 f.val) :
    res_main_while0b_v10 V (ix3 b i c) = X (ix3 b i c) - X (ix3 b f c) := by
  have hs := start_apply V b f h
  unfold res_main_while0b_v10
  rw [hX]
  have ht := take_apply X (res_main_while0b_call0_v4 V) (broadcastInDim S16x1x3 ![] Facts₀.bcast_S_S16x1x3 (constant S_ .f32 0x7FC00000#32 : FVec Ideal S_ .f32)) b c f hs
  refine Eq.trans ?_ (congrArg (fun y => X (ix3 b i c) - y) ht)
  generalize select (α := EReal) (s := S16x1x3) _ _ _ = T
  pointwise

/-- A trip's distances. -/
theorem near_apply (V : Valuation τ sig (Elt Ideal)) (X : S16x8192x3.Idx → EReal) (hX : V (Proc.devRef .tc main_v3_0) = X)
    (D : S16x8192.Idx → EReal) (hD : V (Proc.devRef .tc main_v3_2) = D) (b : Fin 16) (i : Fin 8192) (f : Fin 8192)
    (h : V (Proc.devRef .tc main_v3_3) (ix1 b) = BitVec.ofNat 32 f.val) :
    res_main_while0b_v13 V (ix2 b i) = min (D (ix2 b i)) (Cert.Fps.dist (pts X b i) (pts X b f)) := by
  have hd := fun c => diff_apply V X hX b i c f h
  unfold res_main_while0b_v13 Cert.Fps.dist pts
  rw [hD]
  generalize res_main_while0b_v10 V = w at hd ⊢
  pointwise
  simp only [hd]

/-- A trip's new centres. -/
theorem arg_apply (V : Valuation τ sig (Elt Ideal)) (b : Fin 16) :
    res_arg V (ix1 b) = BitVec.ofNat 32 (argLow (fun i => (res_main_while0b_v13 V (ix2 b i) : EReal))).val :=
  argmax_apply (res_main_while0b_v13 V) b

/-- A trip's table: row `n` takes the latest centres, the rest is kept. -/
theorem table_apply (V : Valuation τ sig (Elt Ideal)) (n : ℕ) (hn : n < 1024) (k : Fin 1024) (b : Fin 16)
    (h : V (Proc.devRef .tc main_v3_1) = fun _ => BitVec.ofNat 32 n) :
    step_main_v3_4 V (ix2 k b) = if k.val = n then V (Proc.devRef .tc main_v3_3) (ix1 b) else V (Proc.devRef .tc main_v3_4) (ix2 k b) := by
  unfold step_main_v3_4
  rw [h]
  refine (writeRow_apply _ _ n hn k b _ (toInt_word n (by omega)) rfl).trans ?_
  generalize V (Proc.devRef .tc main_v3_3) = J
  pointwise

/-- The take after the loop: of each cloud the points whose numbers stand in the table. -/
theorem out_apply (V : Valuation τ sig (Elt Ideal)) (X : S16x8192x3.Idx → EReal) (hX : V (Proc.devRef .tc main_arg0) = X)
    (T : IVec S1024x16 32) (hT : V (Proc.devRef .tc main_v3_4) = T) (b : Fin 16) (k : Fin 1024) (c : Fin 3) (f : Fin 8192)
    (h : T (ix2 k b) = BitVec.ofNat 32 f.val) :
    out_main_v6 V (ix3 b k c) = X (ix3 b f c) := by
  unfold out_main_v6
  rw [hX, hT]
  generalize hw : select (α := BitVec 32) (s := S16x1024x1) _ _ _ = w
  have hs : w (ix3 b k 0) = BitVec.ofNat 32 f.val := by
    rw [← hw]
    pointwise
    exact wrap_eq _ f h
  have hg := takePts_apply 1024 Facts₀.gather_S16x8192x3_S16x1024x1_S16x1024x3_2_1_0_0_1_2_113_wf X w b k c f hs
  clear hw
  pointwise
  rw [inRange (fun x => w (ix3 b k x)) f hs]
  exact hg

/-- What the loop carries after `k` trips on the points `X`. -/
structure Carried (X : S16x8192x3.Idx → EReal) (k : ℕ) (V : Valuation τ sig (Elt Ideal)) : Prop where
  points : V (Proc.devRef .tc main_v3_0) = X
  count : V (Proc.devRef .tc main_v3_1) = fun _ => BitVec.ofNat 32 k
  near : ∃ D : S16x8192.Idx → EReal, V (Proc.devRef .tc main_v3_2) = D ∧ ∀ b i, D (ix2 b i) = (far (pts X b) k).1 i
  last : ∀ b, V (Proc.devRef .tc main_v3_3) (ix1 b) = BitVec.ofNat 32 (far (pts X b) k).2.val
  table : ∃ T : IVec S1024x16 32, V (Proc.devRef .tc main_v3_4) = T
    ∧ ∀ (b : Fin 16) (j : Fin 1024), j.val < k → T (ix2 j b) = BitVec.ofNat 32 (far (pts X b) j.val).2.val

/-- One trip takes what is carried after `k` trips to what is carried after `k + 1`. -/
theorem Carried.step {X : S16x8192x3.Idx → EReal} {k : ℕ} (hk : k < 1024) {V : Valuation τ sig (Elt Ideal)} (h : Carried X k V) :
    Carried X (k + 1) (STEP V) := by
  obtain ⟨D, hD, hd⟩ := h.near
  obtain ⟨T, hT, ht⟩ := h.table
  have hn : ∀ b i, res_main_while0b_v13 V (ix2 b i) = (far (pts X b) (k + 1)).1 i := fun b i =>
    (near_apply V X h.points D hD b i _ (h.last b)).trans (congrArg (fun y : EReal => min y _) (hd b i))
  refine ⟨(STEP_main_v3_0 V).trans h.points, (STEP_main_v3_1 V).trans ?_, ⟨res_main_while0b_v13 V, STEP_main_v3_2 V, hn⟩,
    fun b => (congrFun (STEP_main_v3_3 V) (ix1 b)).trans ((arg_apply V b).trans ?_), ⟨step_main_v3_4 V, STEP_main_v3_4 V, fun b j hj => ?_⟩⟩
  · unfold step_main_v3_1
    rw [h.count]
    funext _
    show BitVec.ofNat 32 k + 1#32 = BitVec.ofNat 32 (k + 1)
    rw [BitVec.ofNat_add]
  · refine congrArg (fun d => BitVec.ofNat 32 (argLow d).val) (funext fun i => hn b i)
  · refine (table_apply V k hk j b h.count).trans ?_
    by_cases e : j.val = k
    · rw [if_pos e, e]; exact h.last b
    · rw [if_neg e, hT]; exact ht b j (by omega)

/-- What the loop starts from. -/
theorem Carried.entry (m : (ℓ : Loc nD τ sig) → Buf (Elt Ideal) ℓ) (c : Dev nD) :
    Carried (m ((c.tc : Thread nD τ).loc main_arg0)) 0 (entryContents preI m c) := by
  refine ⟨?_, ctr_entry m c, ⟨fun _ => ⊤, ?_, fun b i => rfl⟩, fun b => ?_, ⟨fun _ => 0#32, ?_, fun b j hj => absurd hj (Nat.not_lt_zero _)⟩⟩
  · simp only [entryContents, afterL_cons, afterL_nil]
    after_reads_simp
    rfl
  · simp only [entryContents, afterL_cons, afterL_nil]
    after_reads_simp
    funext _
    show Ideal.ofBits FTy.f32 2139095040#32 = ⊤
    simp [Ideal.ofBits, Ideal.ieee]
  · simp only [entryContents, afterL_cons, afterL_nil]
    after_reads_simp
    rfl
  · simp only [entryContents, afterL_cons, afterL_nil]
    after_reads_simp
    rfl

/-- After `k` trips, `k` at most 1024. -/
theorem carried (m : (ℓ : Loc nD τ sig) → Buf (Elt Ideal) ℓ) (c : Dev nD) :
    ∀ k, k ≤ 1024 → Carried (m ((c.tc : Thread nD τ).loc main_arg0)) k (STEP^[k] (entryContents preI m c))
  | 0, _ => Carried.entry m c
  | k + 1, hk => by
    rw [Function.iterate_succ_apply']
    exact (carried m c k (by omega)).step (by omega)

/-- The reference's result is the points chosen. -/
theorem out_eq (m : (ℓ : Loc nD τ sig) → Buf (Elt Ideal) ℓ) (c : Dev nD) :
    out_main_v6 (STEP^[1024] (entryContents preI m c)) = centres (m ((c.tc : Thread nD τ).loc main_arg0)) := by
  obtain ⟨T, hT, ht⟩ := (carried m c 1024 (le_refl _)).table
  funext i
  obtain ⟨b, k, d, rfl⟩ : ∃ (b : Fin 16) (k : Fin 1024) (d : Fin 3), i = ix3 b k d :=
    ⟨i 0, i 1, i 2, eq_ix3 (n0 := 16) (n1 := 1024) (n2 := 3) i⟩
  exact out_apply _ _ (iter_main_arg0 m c 1024) T hT b k d _ (ht b k k.isLt)

/-- The reference's run: the result is the points chosen, the argument is unchanged. -/
theorem run_centres (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = centres (m ((c.tc : Thread nD τ).loc main_arg0))
      ∧ r.2.mem ((c.tc : Thread nD τ).loc main_arg0) = m ((c.tc : Thread nD τ).loc main_arg0) :=
  (θ_run defs _ _).mono (fun _ h c => ⟨(h c).1.trans (out_eq m c), (h c).2⟩) (run m ρ)

/-- The reference's frame: it ends, the argument is unchanged and every counter is zero. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun r h => ⟨fun c => (h c).2, sem_eq_zero_of_no_sems (by decide) r.2⟩) (run m ρ)

end Cert.ReferenceIdeal.Fps

end
-- ==== Proof.Same.lean ====
module

public import proofs.«01_k».proof.Defs
public import proofs.«01_k».proof.Proof.Gen.Kernel
public import proofs.«01_k».proof.Proof.KFrame

/-!
# The kernel and its idealization are one program

No operation was rewritten, so the two printed programs differ in their names alone: their bodies and their hosts' steps
are equal at any float values. The frame proved of the one is therefore the frame of the other.
-/

@[expose] public section

set_option maxRecDepth 65536

noncomputable section

namespace Cert.Proof

open Idealize.ShloMosaic Idealize.SL.Sem

variable {F : FTy → Type} [FloatOps F]

/-- The same kernel body. -/
theorem body_eq : @Cert.Kernel.cc0__fps_kernel F _ _ = @Cert.KernelIdeal.cc0__fps_kernel F _ _ := rfl

/-- The same table of bodies. -/
theorem bodies_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig)
    (Val := Elt F) (Λ := Cert.KernelIdeal.Λ₀)) ?_
  funext l x
  match l, x with
  | 0, (_, _) => rfl

/-- The same table with the pipeline's labels. -/
theorem defs_eq : Cert.Kernel.defs (F := F) = Cert.KernelIdeal.defs (F := F) :=
  congrArg (Pipeline.defs (nD := Cert.KernelIdeal.nD) (τ := Cert.KernelIdeal.τ) (Cert.KernelIdeal.pcfgs (F := F))) bodies_eq

/-- The same host program. -/
theorem main_eq : Cert.Kernel.main (F := F) = Cert.KernelIdeal.main (F := F) := rfl

/-- The kernel's frame. -/
theorem frame_kernel : Cert.quiescent_Kernel := by
  intro m g _
  have h := Cert.KernelIdeal.Fps.frame (F := Bits) m g
  rw [← main_eq, ← defs_eq] at h
  exact h

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KFrame
public import proofs.«01_k».proof.Proof.KResult
public import proofs.«01_k».proof.Proof.RefValue
public import proofs.«01_k».proof.Proof.Same
public import Idealize.ShloMosaic.Adequacy
public import Idealize.ShloMosaic.Init

@[expose] public section

noncomputable section

namespace Cert.Proof

open Idealize.ShloMosaic Idealize.SL.Sem

/-- Kernel and reference, from memories that agree on the argument, end with the same points. -/
theorem algebraic : Cert.algebraic_KernelIdeal_ReferenceIdeal := fun m g m' g' _ h =>
  ⟨fun c => Cert.Fps.centres (m ((c.tc : Thread Cert.KernelIdeal.nD Cert.KernelIdeal.τ).loc Cert.KernelIdeal.main_arg0)),
    Cert.KernelIdeal.Fps.run_centres m g,
    (θ_run _ _ _).mono (fun _ r c => ⟨(r c).1.trans (congrArg Cert.Fps.centres (h c)), (r c).2⟩)
      (Cert.ReferenceIdeal.Fps.run_centres m' g')⟩

theorem claim : Cert.Claim := ⟨Cert.Kernel.Gen.facts, Cert.KernelIdeal.Gen.facts, Cert.ReferenceIdeal.Gen.facts,
  frame_kernel, fun m g _ => Cert.KernelIdeal.Fps.frame m g,
  fun m g _ => Cert.ReferenceIdeal.Fps.frame m g, trivial, algebraic⟩

end Cert.Proof

end
